-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_in_clip [hKernelIdeal : Cert.KernelIdeal.Facts] [hClippedIdeal : Cert.ClippedIdeal.Facts] [hOn_in_clip : Cert.On_in_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 2048]⟩ : Shape).Idx, (Layout.block ⟨2, ![1024, 2048]⟩ ⟨2, ![4096, 2048]⟩ 0 4 c ((Cert.On_in_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![1024, 2048]⟩ : Shape).Idx → _) i = 1#1 → r.2.mem ((c.tc : Thread Cert.KernelIdeal.nD Cert.KernelIdeal.τ).loc Cert.KernelIdeal.main_v1) i = (Layout.block ⟨2, ![1024, 2048]⟩ ⟨2, ![4096, 2048]⟩ 0 4 c v0 : (⟨2, ![1024, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 2048]⟩ : Shape).Idx, (Cert.On_in_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_in_clip : Cert.On_in_clip.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_in_clip (hKernelIdeal := hKernelIdeal) (hClippedIdeal := hClippedIdeal) (hOn_in_clip := hOn_in_clip)
-- ==== On_in_clip.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_cst : FVec F S_ .f32 := constant S_ .f32 0xC2700000#32
  let main_v1 : FVec F S4096x2048 .f32 := broadcastInDim S4096x2048 ![] bcast_S_S4096x2048 main_cst
  let main_v2 : IVec S4096x2048 1 := cmpf .oge main_v0 main_v1
  let main_cst_0 : FVec F S_ .f32 := constant S_ .f32 0x42700000#32
  let main_v3 : FVec F S4096x2048 .f32 := broadcastInDim S4096x2048 ![] bcast_S_S4096x2048 main_cst_0
  let main_v4 : IVec S4096x2048 1 := cmpf .ole main_v0 main_v3
  let main_v5 : IVec S4096x2048 1 := andi main_v2 main_v4
  main_v5
-- ==== Kernel.lean ====
abbrev S4096x1024 : Shape := ⟨2, ![4096, 1024]⟩
abbrev S1024x2048 : Shape := ⟨2, ![1024, 2048]⟩
abbrev S2x1024x1024 : Shape := ⟨3, ![2, 1024, 1024]⟩
abbrev S1024x1024 : Shape := ⟨2, ![1024, 1024]⟩
abbrev S3x4 : Shape := ⟨2, ![3, 4]⟩
abbrev S_ : Shape := ⟨0, ![]⟩
abbrev S256x1024 : Shape := ⟨2, ![256, 1024]⟩
abbrev S1x1 : Shape := ⟨2, ![1, 1]⟩
abbrev S1x256x1024 : Shape := ⟨3, ![1, 256, 1024]⟩
abbrev S256x2048 : Shape := ⟨2, ![256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1024x2048, .f32⟩
  | .local _ .vmem, ⟨0, _⟩ => ⟨S4096x1024, .f32⟩
  | .local _ .vmem, ⟨1, _⟩ => ⟨S1024x2048, .f32⟩
  | .local _ .vmem, ⟨2, _⟩ => ⟨S1024x2048, .f32⟩
  | .local _ .vmem, ⟨3, _⟩ => ⟨S2x1024x1024, .bf16⟩
  | .local _ .vmem, ⟨4, _⟩ => ⟨S2x1024x1024, .bf16⟩
  | .local _ .vmem, ⟨5, _⟩ => ⟨S1024x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 3 51 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32 : BitVec 32 := 1024#32
  let v13 : BitVec 32 := Scalar.muli v5 c1024_i32
  let v14 : BitVec 32 := Scalar.addi v13 c0_i32_10
  let v15 : Index := Scalar.indexCast v14
  let c0 : Index := 0#32
  ![v15.toNat, 0]
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_20 : BitVec 32 := 1#32
  let v25 : BitVec 32 := Scalar.muli v7 c1_i32_20
  let v26 : BitVec 32 := Scalar.addi c0_i32_21 v25
  v26.toNat
def k0_off2 (d0 : Dev nD) (c0_i32_27 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1024_i32_26 : BitVec 32 := 1024#32
  let v34 : BitVec 32 := Scalar.muli v7 c1024_i32_26
  let v35 : BitVec 32 := Scalar.addi v34 c0_i32_27
  let v36 : Index := Scalar.indexCast v35
  let c0_28 : Index := 0#32
  ![v36.toNat, 0]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_38 : BitVec 32 := 1#32
  let v46 : BitVec 32 := Scalar.muli v5 c1_i32_38
  let v47 : BitVec 32 := Scalar.addi c0_i32_39 v46
  v47.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_55 : BitVec 32 := 1#32
  let v67 : BitVec 32 := Scalar.muli v7 c1_i32_55
  let v68 : BitVec 32 := Scalar.addi c0_i32_56 v67
  v68.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_74 : BitVec 32 := 1#32
  let v88 : BitVec 32 := Scalar.muli v5 c1_i32_74
  let v89 : BitVec 32 := Scalar.addi c0_i32_75 v88
  v89.toNat
def k0_dev7 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_91 : BitVec 32 := 1#32
  let v109 : BitVec 32 := Scalar.muli v7 c1_i32_91
  let v110 : BitVec 32 := Scalar.addi c0_i32_92 v109
  v110.toNat
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_110 : BitVec 32 := 1#32
  let v130 : BitVec 32 := Scalar.muli v5 c1_i32_110
  let v131 : BitVec 32 := Scalar.addi c0_i32_111 v130
  v131.toNat
def k0_dev9 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_126 : BitVec 32 := 1#32
  let v151 : BitVec 32 := Scalar.muli v7 c1_i32_126
  let v152 : BitVec 32 := Scalar.addi c0_i32_127 v151
  v152.toNat
def k0_dev10 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_145 : BitVec 32 := 1#32
  let v172 : BitVec 32 := Scalar.muli v5 c1_i32_145
  let v173 : BitVec 32 := Scalar.addi c0_i32_146 v172
  v173.toNat
def k0_off3 (d0 : Dev nD) (c0_i32_151 : BitVec 32) (c0_i32_155 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v181 : BitVec 32 := Scalar.addi v2 c8_i32
  let v182 : BitVec 32 := Scalar.subi v181 c0_i32_151
  let c2_i32_152 : BitVec 32 := 2#32
  let v183 : BitVec 32 := Scalar.subi v182 c2_i32_152
  let c4_i32_153 : BitVec 32 := 4#32
  let v184 : BitVec 32 := Scalar.remsi v183 c4_i32_153
  let c1024_i32_154 : BitVec 32 := 1024#32
  let v185 : BitVec 32 := Scalar.muli v184 c1024_i32_154
  let v186 : BitVec 32 := Scalar.addi v185 c0_i32_155
  let v187 : Index := Scalar.indexCast v186
  let c0_156 : Index := 0#32
  ![v187.toNat, 0]
def k0_dev11 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_209 : BitVec 32 := 1#32
  let v245 : BitVec 32 := Scalar.muli v7 c1_i32_209
  let v246 : BitVec 32 := Scalar.addi c0_i32_210 v245
  v246.toNat
def k0_dev12 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_246 : BitVec 32 := 1#32
  let v274 : BitVec 32 := Scalar.muli v5 c1_i32_246
  let v275 : BitVec 32 := Scalar.addi c0_i32_247 v274
  v275.toNat
def k0_dev13 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_283 : BitVec 32 := 1#32
  let v303 : BitVec 32 := Scalar.muli v7 c1_i32_283
  let v304 : BitVec 32 := Scalar.addi c0_i32_284 v303
  v304.toNat
def k0_dev14 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_320 : BitVec 32 := 1#32
  let v332 : BitVec 32 := Scalar.muli v5 c1_i32_320
  let v333 : BitVec 32 := Scalar.addi c0_i32_321 v332
  v333.toNat
def k0_dev15 (d0 : Dev nD) : Nat :=
  let c0_i32_358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_357 : BitVec 32 := 1#32
  let v361 : BitVec 32 := Scalar.muli v7 c1_i32_357
  let v362 : BitVec 32 := Scalar.addi c0_i32_358 v361
  v362.toNat
def k0_dev16 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_394 : BitVec 32 := 1#32
  let v390 : BitVec 32 := Scalar.muli v5 c1_i32_394
  let v391 : BitVec 32 := Scalar.addi c0_i32_395 v390
  v391.toNat
def k0_dev17 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_427 : BitVec 32 := 1#32
  let v419 : BitVec 32 := Scalar.muli v5 c1_i32_427
  let v420 : BitVec 32 := Scalar.addi c0_i32_428 v419
  v420.toNat
def k0_dev18 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_434 : BitVec 32 := 1#32
  let v421 : BitVec 32 := Scalar.muli v7 c1_i32_434
  let v422 : BitVec 32 := Scalar.addi c0_i32_435 v421
  v422.toNat
def k0_dev19 (d0 : Dev nD) : Nat :=
  let c0_i32_468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_467 : BitVec 32 := 1#32
  let v450 : BitVec 32 := Scalar.muli v7 c1_i32_467
  let v451 : BitVec 32 := Scalar.addi c0_i32_468 v450
  v451.toNat
def k0_dev20 (d0 : Dev nD) : Nat :=
  let c0_i32_475 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_474 : BitVec 32 := 1#32
  let v452 : BitVec 32 := Scalar.muli v5 c1_i32_474
  let v453 : BitVec 32 := Scalar.addi c0_i32_475 v452
  v453.toNat
def k0_off4 (d0 : Dev nD) (c0_i32_494 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_484 : BitVec 32 := 1#32
  let v465 : BitVec 32 := Scalar.addi v2 c1_i32_484
  let c2_i32_485 : BitVec 32 := 2#32
  let v466 : BitVec 32 := Scalar.addi v465 c2_i32_485
  let c4_i32_486 : BitVec 32 := 4#32
  let v467 : BitVec 32 := Scalar.remsi v466 c4_i32_486
  let c1024_i32_493 : BitVec 32 := 1024#32
  let v476 : BitVec 32 := Scalar.muli v467 c1024_i32_493
  let v477 : BitVec 32 := Scalar.addi v476 c0_i32_494
  let v478 : Index := Scalar.indexCast v477
  let c0_495 : Index := 0#32
  ![v478.toNat, 0]
def k0_dev21 (d0 : Dev nD) : Nat :=
  let c0_i32_568 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_567 : BitVec 32 := 1#32
  let v552 : BitVec 32 := Scalar.muli v7 c1_i32_567
  let v553 : BitVec 32 := Scalar.addi c0_i32_568 v552
  v553.toNat
def k0_dev22 (d0 : Dev nD) : Nat :=
  let c0_i32_607 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_606 : BitVec 32 := 1#32
  let v581 : BitVec 32 := Scalar.muli v5 c1_i32_606
  let v582 : BitVec 32 := Scalar.addi c0_i32_607 v581
  v582.toNat
def k0_dev23 (d0 : Dev nD) : Nat :=
  let c0_i32_644 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_643 : BitVec 32 := 1#32
  let v610 : BitVec 32 := Scalar.muli v7 c1_i32_643
  let v611 : BitVec 32 := Scalar.addi c0_i32_644 v610
  v611.toNat
def k0_dev24 (d0 : Dev nD) : Nat :=
  let c0_i32_681 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_680 : BitVec 32 := 1#32
  let v639 : BitVec 32 := Scalar.muli v5 c1_i32_680
  let v640 : BitVec 32 := Scalar.addi c0_i32_681 v639
  v640.toNat
def k0_dev25 (d0 : Dev nD) : Nat :=
  let c0_i32_718 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_717 : BitVec 32 := 1#32
  let v668 : BitVec 32 := Scalar.muli v7 c1_i32_717
  let v669 : BitVec 32 := Scalar.addi c0_i32_718 v668
  v669.toNat
def k0_dev26 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_754 : BitVec 32 := 1#32
  let v697 : BitVec 32 := Scalar.muli v5 c1_i32_754
  let v698 : BitVec 32 := Scalar.addi c0_i32_755 v697
  v698.toNat
def k0_dev27 (d0 : Dev nD) : Nat :=
  let c0_i32_792 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_791 : BitVec 32 := 1#32
  let v726 : BitVec 32 := Scalar.muli v7 c1_i32_791
  let v727 : BitVec 32 := Scalar.addi c0_i32_792 v726
  v727.toNat
def k0_dev28 (d0 : Dev nD) : Nat :=
  let c0_i32_829 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_828 : BitVec 32 := 1#32
  let v755 : BitVec 32 := Scalar.muli v5 c1_i32_828
  let v756 : BitVec 32 := Scalar.addi c0_i32_829 v755
  v756.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Program.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

/-! # The kernel's body as a program of rings, hops and subtiles -/

namespace Cert.RingProof

open Cert.KernelIdeal Cert.KernelIdeal.Gen

open Idealize.ShloMosaic
open Idealize.ShloMosaic.TcCoe
open Idealize.SL Idealize.SL.Sem

variable {F : FTy → Type} [FloatOps F]

/-! ## Buffers and semaphores, ring by ring (`true`: the ring that sends to the next device) -/

/-- The staged operands and the staged result. -/
abbrev xM : Memref sig .tc .vmem S4096x1024 .f32 := Memref.whole cc0_stg0_0
abbrev wM : Memref sig .tc .vmem S1024x2048 .f32 := Memref.whole cc0_stg1_0
abbrev oM : Memref sig .tc .vmem S1024x2048 .f32 := Memref.whole cc0_stg2_0

/-- A ring's landing buffer. -/
abbrev commR : Bool → Ref sig .tc | true => cc0_scratch0 | false => cc0_scratch1
abbrev commM : Bool → Memref sig .tc .vmem S2x1024x1024 .bf16 | true => Memref.whole cc0_scratch0 | false => Memref.whole cc0_scratch1
/-- A ring's outgoing buffer. -/
abbrev stageR : Bool → Ref sig .tc | true => cc0_scratch2 | false => cc0_scratch3
abbrev stageM : Bool → Memref sig .tc .vmem S1024x1024 .bf16 | true => Memref.whole cc0_scratch2 | false => Memref.whole cc0_scratch3

theorem commM_whole : ∀ r, (commM r).IsWhole | true => Memref.isWhole_whole _ | false => Memref.isWhole_whole _
theorem stageM_whole : ∀ r, (stageM r).IsWhole | true => Memref.isWhole_whole _ | false => Memref.isWhole_whole _

/-- A ring's send and receive semaphore arrays, and its credit semaphore. -/
abbrev sendA : Bool → DmaSems sig S3x4 | true => cc0_scratch4 | false => cc0_scratch6
abbrev recvA : Bool → DmaSems sig S3x4 | true => cc0_scratch5 | false => cc0_scratch7
abbrev credA : Bool → Sems sig S_ | true => cc0_scratch8 | false => cc0_scratch9
abbrev barA : Sems sig S_ := SemArray.scalar (sig.barrier 0 rfl)

theorem inb_sem (s : Fin 3) (i : Fin 4) : ∀ a, (![s.val, i.val] : Fin 2 → Nat) a + S1x1.size a ≤ S3x4.size a := by
  revert s i; decide
theorem inb_stage (i : Fin 4) : ∀ a, (![i.val * 256, 0] : Fin 2 → Nat) a + S256x1024.size a ≤ S1024x1024.size a := by
  revert i; decide
theorem inb_comm (s : Fin 2) (i : Fin 4) : ∀ a, (![s.val, i.val * 256, 0] : Fin 3 → Nat) a + S1x256x1024.size a ≤ S2x1024x1024.size a := by
  revert s i; decide
theorem inb_out (r : Fin 2) (i : Fin 4) : ∀ a, (![i.val * 256, r.val * 1024] : Fin 2 → Nat) a + S256x1024.size a ≤ S1024x2048.size a := by
  revert r i; decide
theorem inb_w (r : Fin 2) : ∀ a, (![0, r.val * 1024] : Fin 2 → Nat) a + S1024x1024.size a ≤ S1024x2048.size a := by
  revert r; decide

/-- The column half a ring works on. -/
abbrev half : Bool → Fin 2 | true => 0 | false => 1
/-- The landing slot a hop's block goes to. -/
abbrev slot : Fin 3 → Fin 2 | 0 => 0 | 1 => 1 | 2 => 0

abbrev sendS (r : Bool) (s : Fin 3) (i : Fin 4) : DmaSem sig :=
  (((sendA r).slice (Rect.unit (s := S3x4) ![s.val, i.val] S1x1.size (inb_sem s i))).squeeze S_ squeezes_S1x1_S_).sem
abbrev recvS (r : Bool) (s : Fin 3) (i : Fin 4) : DmaSem sig :=
  (((recvA r).slice (Rect.unit (s := S3x4) ![s.val, i.val] S1x1.size (inb_sem s i))).squeeze S_ squeezes_S1x1_S_).sem

abbrev stageRect (i : Fin 4) : Rect S1024x1024 := Rect.unit (s := S1024x1024) ![i.val * 256, 0] S256x1024.size (inb_stage i)
abbrev commRect (s : Fin 2) (i : Fin 4) : Rect S2x1024x1024 := Rect.unit (s := S2x1024x1024) ![s.val, i.val * 256, 0] S1x256x1024.size (inb_comm s i)
abbrev outRect (r : Bool) (i : Fin 4) : Rect S1024x2048 := Rect.unit (s := S1024x2048) ![i.val * 256, (half r).val * 1024] S256x1024.size (inb_out (half r) i)
abbrev wRect (r : Bool) : Rect S1024x2048 := Rect.unit (s := S1024x2048) ![0, (half r).val * 1024] S1024x1024.size (inb_w (half r))
abbrev wAll : Rect S1024x2048 := Rect.unit (s := S1024x2048) ![0, 0] S1024x2048.size inb_S1024x2048_S1024x2048_0_0

abbrev stageP (r : Bool) (i : Fin 4) : Memref sig .tc .vmem S256x1024 .bf16 := (stageM r).slice (stageRect i) (fun _ => rfl)
abbrev commP (r : Bool) (s : Fin 2) (i : Fin 4) : Memref sig .tc .vmem S256x1024 .bf16 :=
  ((commM r).slice (commRect s i) (fun _ => rfl)).squeeze S256x1024 squeezes_S1x256x1024_S256x1024

theorem stage_packed (i : Fin 4) : (stageRect i).PackedRows (EltTy.packing .bf16) := by
  fin_cases i
  · exact packedbf16_S1024x1024_S256x1024_0_0
  · exact packedbf16_S1024x1024_S256x1024_256_0
  · exact packedbf16_S1024x1024_S256x1024_512_0
  · exact packedbf16_S1024x1024_S256x1024_768_0
theorem stage_words (i : Fin 4) : (stageRect i).WholeWords (EltTy.packing .bf16) := by
  fin_cases i
  · exact wordsbf16_S1024x1024_S256x1024_0_0
  · exact wordsbf16_S1024x1024_S256x1024_256_0
  · exact wordsbf16_S1024x1024_S256x1024_512_0
  · exact wordsbf16_S1024x1024_S256x1024_768_0
theorem comm_words (s : Fin 2) (i : Fin 4) : (commRect s i).WholeWords (EltTy.packing .bf16) := by
  fin_cases s <;> fin_cases i
  · exact wordsbf16_S2x1024x1024_S1x256x1024_0_0_0
  · exact wordsbf16_S2x1024x1024_S1x256x1024_0_256_0
  · exact wordsbf16_S2x1024x1024_S1x256x1024_0_512_0
  · exact wordsbf16_S2x1024x1024_S1x256x1024_0_768_0
  · exact wordsbf16_S2x1024x1024_S1x256x1024_1_0_0
  · exact wordsbf16_S2x1024x1024_S1x256x1024_1_256_0
  · exact wordsbf16_S2x1024x1024_S1x256x1024_1_512_0
  · exact wordsbf16_S2x1024x1024_S1x256x1024_1_768_0
theorem stageP_exact (r : Bool) (i : Fin 4) : (stageP r i).view.WordExact := (stageM_whole r).wordExact_slice rfl _ (stage_words i)
theorem commP_exact (r : Bool) (s : Fin 2) (i : Fin 4) : (commP r s i).view.WordExact :=
  ((commM_whole r).wordExact_slice rfl _ (comm_words s i)).reshape _ _

/-! ## Devices -/

/-- The device a copy of ring `r`, hop `s`, subtile `i` from `d` goes to, as the kernel computes it. -/
def dst (d : Dev nD) : Bool → Fin 3 → Fin 4 → Dev nD
  | true, 0, 0 => ⟨k0_dev3 d, k0_dev3_lt d⟩ | false, 0, 0 => ⟨k0_dev4 d, k0_dev4_lt d⟩
  | true, 0, 1 => ⟨k0_dev5 d, k0_dev5_lt d⟩ | false, 0, 1 => ⟨k0_dev6 d, k0_dev6_lt d⟩
  | true, 0, 2 => ⟨k0_dev7 d, k0_dev7_lt d⟩ | false, 0, 2 => ⟨k0_dev8 d, k0_dev8_lt d⟩
  | true, 0, 3 => ⟨k0_dev9 d, k0_dev9_lt d⟩ | false, 0, 3 => ⟨k0_dev10 d, k0_dev10_lt d⟩
  | true, 1, 0 => ⟨k0_dev11 d, k0_dev11_lt d⟩ | false, 1, 0 => ⟨k0_dev12 d, k0_dev12_lt d⟩
  | true, 1, 1 => ⟨k0_dev13 d, k0_dev13_lt d⟩ | false, 1, 1 => ⟨k0_dev14 d, k0_dev14_lt d⟩
  | true, 1, 2 => ⟨k0_dev15 d, k0_dev15_lt d⟩ | false, 1, 2 => ⟨k0_dev16 d, k0_dev16_lt d⟩
  | true, 1, 3 => ⟨k0_dev18 d, k0_dev18_lt d⟩ | false, 1, 3 => ⟨k0_dev20 d, k0_dev20_lt d⟩
  | true, 2, 0 => ⟨k0_dev21 d, k0_dev21_lt d⟩ | false, 2, 0 => ⟨k0_dev22 d, k0_dev22_lt d⟩
  | true, 2, 1 => ⟨k0_dev23 d, k0_dev23_lt d⟩ | false, 2, 1 => ⟨k0_dev24 d, k0_dev24_lt d⟩
  | true, 2, 2 => ⟨k0_dev25 d, k0_dev25_lt d⟩ | false, 2, 2 => ⟨k0_dev26 d, k0_dev26_lt d⟩
  | true, 2, 3 => ⟨k0_dev27 d, k0_dev27_lt d⟩ | false, 2, 3 => ⟨k0_dev28 d, k0_dev28_lt d⟩
/-- The device whose credit semaphore ring `r` signals. -/
def credDst (d : Dev nD) : Bool → Dev nD | true => ⟨k0_dev17 d, k0_dev17_lt d⟩ | false => ⟨k0_dev19 d, k0_dev19_lt d⟩

/-- The word `i * 256`. -/
abbrev subW (i : Fin 4) : BitVec 32 := BitVec.ofNat 32 (256 * i.val)
abbrev hopW (s : Fin 3) : BitVec 32 := BitVec.ofNat 32 s.val

/-! ## The arithmetic of a step -/

/-- A rank's first outgoing block. -/
abbrev initVal (x : Vec F S256x1024 .f32) (w : Vec F S1024x1024 .f32) : FVec F S256x1024 .bf16 := k0_pay1 x w
/-- The local product of a hop, both column halves at once; and one half. -/
abbrev evenVal (r : Bool) (x : Vec F S256x1024 .f32) (w : Vec F S1024x2048 .f32) : FVec F S256x1024 .f32 :=
  match r with | true => k0_pay11 x w | false => k0_pay12 x w
abbrev oddVal (x : Vec F S256x1024 .f32) (w : Vec F S1024x1024 .f32) : FVec F S256x1024 .f32 := k0_pay34 x w
/-- The block passed on: what came in plus the local product. -/
abbrev stepVal (p : FVec F S256x1024 .f32) (v : Vec F S1x256x1024 .bf16) : FVec F S256x1024 .bf16 := k0_pay26 p v
/-- The result of a subtile: the last sum times its logistic. -/
abbrev lastVal (p : FVec F S256x1024 .f32) (v : Vec F S1x256x1024 .bf16) : FVec F S256x1024 .f32 := k0_pay67 p v

/-! ## The pieces of the program -/

abbrev PR (F : FTy → Type) := Prog (TpuEff nD τ sig (Elt F) Λ₀ .tc)

def loadX (off : Fin 2 → Nat) (h : ∀ a, off a + S256x1024.size a ≤ S4096x1024.size a) : PR F (Vec F S256x1024 .f32) :=
  Prog.lift (.load xM (Rect.unit (s := S4096x1024) off S256x1024.size h).toLoadRect (View.loadsAt_vmem h_S256x1024))
def loadW (r : Bool) : PR F (Vec F S1024x1024 .f32) :=
  Prog.lift (.load wM (wRect r).toLoadRect (View.loadsAt_vmem h_S1024x1024))
def loadWAll : PR F (Vec F S1024x2048 .f32) :=
  Prog.lift (.load wM wAll.toLoadRect (View.loadsAt_vmem h_S1024x2048))
def loadComm (r : Bool) (s : Fin 2) (i : Fin 4) : PR F (Vec F S1x256x1024 .bf16) :=
  Prog.lift (.load (commM r) (commRect s i).toLoadRect (View.loadsAt_vmem h_S1x256x1024))

/-- Write `v` to a subtile of the outgoing buffer (after a read of it that is not used). -/
def putStage (r : Bool) (i : Fin 4) (v : FVec F S256x1024 .bf16) : PR F PUnit := do
  let _ ← Prog.lift (.load (stageM r) (stageRect i).toLoadRect (View.loadsAt_vmem h_S256x1024))
  Prog.lift (.store (stageM r) (stageRect i) v Finset.univ (View.stores_vmem h_S256x1024 ((stageM_whole r).storeExact_slice rfl _ (stage_packed i)) (fun _ => rfl)) (.inl rfl))
/-- Write `v` to a subtile of the result. -/
def putOut (r : Bool) (i : Fin 4) (v : FVec F S256x1024 .f32) : PR F PUnit := do
  let _ ← Prog.lift (.load oM (outRect r i).toLoadRect (View.loadsAt_vmem h_S256x1024))
  Prog.lift (.store oM (outRect r i) v Finset.univ (View.stores_vmem_bits_univ h_S256x1024 rfl) (.inl rfl))

/-- Start the copy of a subtile to the neighbour. -/
def send (d : Dev nD) (r : Bool) (s : Fin 3) (i : Fin 4) : PR F PUnit :=
  Prog.lift (.enqueueDma (stageP r i) (.remote (Dev.tc (dst d r s i)) (commP r (slot s) i) (.dma (sendS r s i))) (.dma (recvS r s i))
    (stageP_exact r i) (commP_exact r (slot s) i) ⟨⟨rfl, Or.inl rfl⟩, trivial⟩)

/-- Wait for the end of the own copy, then for the arrival of the neighbour's. -/
def waits (r : Bool) (s : Fin 3) (i : Fin 4) : PR F PUnit := do
  Prog.lift (.waitDma2 (sendS r s i) (commP r (slot s) i) (stageP r i) (commP_exact r (slot s) i) (stageP_exact r i))
  Prog.lift (.waitDma2 (recvS r s i) (stageP r i) (commP r (slot s) i) (stageP_exact r i) (commP_exact r (slot s) i))

/-- The barrier. -/
def barrier (d : Dev nD) : PR F PUnit := do
  semSignalWord (⟨k0_dev1 d, k0_dev1_lt d⟩ : Dev nD) barA.sem 1#32
  semSignalWord (⟨k0_dev2 d, k0_dev2_lt d⟩ : Dev nD) barA.sem 1#32
  semWaitWord barA.sem 2#32

def loadXInit (d : Dev nD) (r : Bool) (i : Fin 4) : PR F (Vec F S256x1024 .f32) :=
  match r with
  | true => loadX (k0_off1 d (subW i)) (k0_off1_inb d i)
  | false => loadX (k0_off2 d (subW i)) (k0_off2_inb d i)

/-- The first block of a subtile computed and sent. -/
def initStep (d : Dev nD) (r : Bool) (i : Fin 4) : PR F PUnit := do
  let x ← loadXInit d r i
  let w ← loadW r
  putStage r i (initVal x w)
  send d r 0 i

def loadXHop (d : Dev nD) (s : Fin 3) (i : Fin 4) : PR F (Vec F S256x1024 .f32) :=
  loadX (k0_off3 d (hopW s) (subW i)) (k0_off3_inb d s i)

/-- The operands of the local products of an even hop. -/
def loadsEven (d : Dev nD) (s : Fin 3) : PR F (Fin 4 → Vec F S256x1024 .f32 × Vec F S1024x2048 .f32) := do
  let x0 ← loadXHop d s 0
  let w0 ← loadWAll
  let x1 ← loadXHop d s 1
  let w1 ← loadWAll
  let x2 ← loadXHop d s 2
  let w2 ← loadWAll
  let x3 ← loadXHop d s 3
  let w3 ← loadWAll
  pure fun | 0 => (x0, w0) | 1 => (x1, w1) | 2 => (x2, w2) | 3 => (x3, w3)

def loadXOdd (d : Dev nD) (r : Bool) (i : Fin 4) : PR F (Vec F S256x1024 .f32) :=
  match r with
  | true => loadX (k0_off3 d (hopW 1) (subW i)) (k0_off3_inb d 1 i)
  | false => loadX (k0_off4 d (subW i)) (k0_off4_inb d i)

def loadOdd (d : Dev nD) (r : Bool) (i : Fin 4) : PR F (FVec F S256x1024 .f32) := do
  let x ← loadXOdd d r i
  let w ← loadW r
  pure (oddVal x w)

/-- The local products of the odd hop. -/
def loadsOdd (d : Dev nD) : PR F (Bool → Fin 4 → FVec F S256x1024 .f32) := do
  let a0 ← loadOdd d true 0
  let b0 ← loadOdd d false 0
  let a1 ← loadOdd d true 1
  let b1 ← loadOdd d false 1
  let a2 ← loadOdd d true 2
  let b2 ← loadOdd d false 2
  let a3 ← loadOdd d true 3
  let b3 ← loadOdd d false 3
  pure fun
    | true, 0 => a0 | true, 1 => a1 | true, 2 => a2 | true, 3 => a3
    | false, 0 => b0 | false, 1 => b1 | false, 2 => b2 | false, 3 => b3

/-- The credit operation between a step's sum and its copy: after hop 0's last subtile the slot is given back; before
    hop 2's first copy the neighbour's slot is waited for. -/
def credit (d : Dev nD) (r : Bool) : Fin 2 → Fin 4 → PR F PUnit
  | 0, 3 => semSignalWord (credDst d r) (credA r).sem 1#32
  | 1, 0 => semWaitWord (credA r).sem 1#32
  | _, _ => pure ⟨⟩

abbrev hop : Fin 2 → Fin 3 | 0 => 0 | 1 => 1
abbrev hopS : Fin 2 → Fin 3 | 0 => 1 | 1 => 2

/-- A step of hop 0 or 1: receive, add, send on. -/
def step (d : Dev nD) (r : Bool) (s : Fin 2) (i : Fin 4) (p : FVec F S256x1024 .f32) : PR F PUnit := do
  waits r (hop s) i
  let v ← loadComm r s i
  putStage r i (stepVal p v)
  credit d r s i
  send d r (hopS s) i

/-- A step of the last hop: receive, add, write the result. -/
def lastStep (r : Bool) (i : Fin 4) (p : FVec F S256x1024 .f32) : PR F PUnit := do
  waits r 2 i
  let v ← loadComm r 0 i
  putOut r i (lastVal p v)

/-- What is done for both rings and all subtiles, in order. -/
def sweep (f : Bool → Fin 4 → PR F PUnit) : PR F PUnit := do
  f true 0; f false 0; f true 1; f false 1; f true 2; f false 2; f true 3; f false 3

def body : PR F PUnit := do
  let d ← Prog.lift .deviceId
  barrier d
  sweep fun r i => initStep d r i
  let p ← loadsEven d 0
  sweep fun r i => step d r 0 i (evenVal r (p i).1 (p i).2)
  let p ← loadsOdd d
  sweep fun r i => step d r 1 i (p r i)
  let p ← loadsEven d 2
  sweep fun r i => lastStep r i (evenVal r (p i).1 (p i).2)

end Cert.RingProof

end
-- ==== Proof.Views.lean ====
module

public import proofs.«01_k».proof.Proof.Program
public import Idealize.ShloMosaic.Lib.Ring

@[expose] public section

noncomputable section

/-! # Buffers held piece by piece, and the loads and stores of a piece -/

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks pointsTo_blocks_join_exists)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Program `p` of device `c`'s core runs to a state in which its result satisfies `Q`. -/
abbrev WP (c : Dev nD) {α : Type} (p : PR F α) (Q : α → sProp 𝕄) : sProp 𝕄 :=
  wp frame (wpE (defs₀ (F := F)) 𝒱₀ (c : Thread nD τ) none) Set.univ p Q

/-! ## The pieces of each buffer -/

/-- A subtile of the result. -/
abbrev outP (r : Bool) (i : Fin 4) : Memref sig .tc .vmem S256x1024 .f32 := oM.slice (outRect r i) (fun _ => rfl)

theorem stageRect_disjoint (i i' : Fin 4) (h : i ≠ i') : Disjoint (stageRect i).set (stageRect i').set :=
  lead_disjoint (s := S1024x1024) (NB := 4) 0 256 (fun i => ![i.val * 256, 0]) S256x1024.size inb_stage
    (fun i => by simp [Nat.mul_comm]) rfl i i' h

theorem stageRect_cover : Finset.univ.biUnion (fun i => (stageRect i).set) = Finset.univ :=
  lead_cover (s := S1024x1024) (NB := 4) 0 256 (fun i => ![i.val * 256, 0]) S256x1024.size inb_stage
    (fun i => by simp [Nat.mul_comm]) (fun i a ha => by fin_cases a <;> first | rfl | exact absurd rfl ha) rfl
    (fun a ha => by fin_cases a <;> first | rfl | exact absurd rfl ha) rfl

theorem commRect_disjoint (p p' : Fin 2 × Fin 4) (h : p ≠ p') : Disjoint (commRect p.1 p.2).set (commRect p'.1 p'.2).set := by
  rw [Finset.disjoint_left]
  intro x hx hx'
  have h0 := (Rect.mem_set_unit.mp hx) 0
  have h0' := (Rect.mem_set_unit.mp hx') 0
  have h1 := (Rect.mem_set_unit.mp hx) 1
  have h1' := (Rect.mem_set_unit.mp hx') 1
  simp at h0 h0' h1 h1'
  exact h (Prod.ext (Fin.ext (by omega)) (Fin.ext (by omega)))

theorem commRect_cover : Finset.univ.biUnion (fun p : Fin 2 × Fin 4 => (commRect p.1 p.2).set) = Finset.univ := by
  ext x
  simp only [Finset.mem_biUnion, Finset.mem_univ, true_and, iff_true]
  have h0 : (x 0).val < 2 := (x 0).isLt
  have h1 : (x 1).val < 1024 := (x 1).isLt
  have h2 : (x 2).val < 1024 := (x 2).isLt
  refine ⟨(⟨(x 0).val, h0⟩, ⟨(x 1).val / 256, by omega⟩), Rect.mem_set_unit.mpr fun a => ?_⟩
  fin_cases a <;> simp <;> omega

theorem outRect_disjoint (p p' : Bool × Fin 4) (h : p ≠ p') : Disjoint (outRect p.1 p.2).set (outRect p'.1 p'.2).set := by
  obtain ⟨r, i⟩ := p
  obtain ⟨r', i'⟩ := p'
  rw [Finset.disjoint_left]
  intro x hx hx'
  have h0 := (Rect.mem_set_unit.mp hx) 0
  have h0' := (Rect.mem_set_unit.mp hx') 0
  have h1 := (Rect.mem_set_unit.mp hx) 1
  have h1' := (Rect.mem_set_unit.mp hx') 1
  simp at h0 h0' h1 h1'
  refine h (Prod.ext ?_ (Fin.ext (by show i.val = i'.val; omega)))
  revert h1 h1'
  cases r <;> cases r' <;> simp [half] <;> omega

theorem outRect_cover : Finset.univ.biUnion (fun p : Bool × Fin 4 => (outRect p.1 p.2).set) = Finset.univ := by
  ext x
  simp only [Finset.mem_biUnion, Finset.mem_univ, true_and, iff_true]
  have h0 : (x 0).val < 1024 := (x 0).isLt
  have h1 : (x 1).val < 2048 := (x 1).isLt
  refine ⟨(decide ((x 1).val < 1024), ⟨(x 0).val / 256, by omega⟩), Rect.mem_set_unit.mpr fun a => ?_⟩
  by_cases hx : (x 1).val < 1024 <;> fin_cases a <;> simp [hx, half] <;> omega

theorem commP_set (r : Bool) (s : Fin 2) (i : Fin 4) : (commP r s i).view.set = ((commM r).view.slice (commRect s i)).set := by
  cases r <;> exact View.set_reshape _ _

/-- Elements of a buffer held at some contents. -/
def anyOn (ℓ : Loc nD τ sig) (I : Finset (Idx ℓ)) : sProp 𝕄 := iprop(∃ f : Buf (Elt F) ℓ, ℓ ↦[I]{fullShare} f)

/-- A whole buffer held at some contents. -/
def anyWhole (ℓ : Loc nD τ sig) : sProp 𝕄 := iprop(∃ f : Buf (Elt F) ℓ, ℓ ↦{fullShare} f)

instance (ℓ : Loc nD τ sig) (I : Finset (Idx ℓ)) : BI.Storable (upEmb : UEmb _ 𝕄) (anyOn (F := F) ℓ I) := by
  unfold anyOn; infer_instance

/-- A piece of an outgoing buffer at some contents; likewise a piece of a landing buffer, and of the result. -/
def stageAny (c : Dev nD) (r : Bool) (i : Fin 4) : sProp 𝕄 :=
  anyOn (F := F) ((stageM r).view.loc (c : Thread nD τ)) ((stageM r).view.slice (stageRect i)).set
def commAny (c : Dev nD) (r : Bool) (s : Fin 2) (i : Fin 4) : sProp 𝕄 :=
  anyOn (F := F) ((commM r).view.loc (c : Thread nD τ)) (commP r s i).view.set
def outAny (c : Dev nD) (r : Bool) (i : Fin 4) : sProp 𝕄 := iprop(∃ X, owns (c : Thread nD τ) (outP r i) fullShare X)

instance (c : Dev nD) (r : Bool) (s : Fin 2) (i : Fin 4) : BI.Storable (upEmb : UEmb _ 𝕄) (commAny (F := F) c r s i) := by
  unfold commAny; infer_instance

theorem any_of_owns (c : Thread nD τ) {sh : Shape} {e : EltTy} (m : Memref sig c.2.kind .vmem sh e) (X : sh.Idx → Elt F e) :
    (owns c m fullShare X : sProp 𝕄) ⊢ anyOn (m.view.loc c) m.view.set := by
  unfold owns anyOn
  iintro ⟨%f, -, H⟩
  iexists f
  iexact H

theorem stageAny_of (c : Dev nD) (r : Bool) (i : Fin 4) (X : Vec F S256x1024 .bf16) :
    (owns (c : Thread nD τ) (stageP r i) fullShare X : sProp 𝕄) ⊢ stageAny c r i := any_of_owns _ _ _
theorem commAny_of (c : Dev nD) (r : Bool) (s : Fin 2) (i : Fin 4) (X : Vec F S256x1024 .bf16) :
    (owns (c : Thread nD τ) (commP r s i) fullShare X : sProp 𝕄) ⊢ commAny c r s i := any_of_owns _ _ _

/-- A buffer held whole is held piece by piece, over any disjoint family of element sets covering it, -/
theorem pieces_split {ℓ : Loc nD τ sig} {T : Type} [Fintype T] (I : T → Finset (Idx ℓ)) (hd : ∀ t t', t ≠ t' → Disjoint (I t) (I t'))
    (hc : ∀ x, ∃ t, x ∈ I t) :
    anyWhole (F := F) ℓ ⊢ bigSep Finset.univ fun t => anyOn (F := F) ℓ (I t) :=
  exists_elim fun f => (Entails.of_eq (pointsTo_blocks I hd (by ext x; simpa using hc x) f)).trans
    (bigSep_mono fun t _ => exists_intro (Φ := fun f : Buf (Elt F) ℓ => (ℓ ↦[I t]{fullShare} f : sProp 𝕄)) f)

/-- and back, the pieces at any contents. -/
theorem pieces_join {ℓ : Loc nD τ sig} {T : Type} [Fintype T] [DecidableEq T] (I : T → Finset (Idx ℓ)) (hd : ∀ t t', t ≠ t' → Disjoint (I t) (I t'))
    (hc : ∀ x, ∃ t, x ∈ I t) :
    (bigSep Finset.univ fun t => anyOn (F := F) ℓ (I t)) ⊢ anyWhole (F := F) ℓ :=
  pointsTo_blocks_join_exists I hd (by ext x; simpa using hc x) (fun _ => Classical.arbitrary _)

theorem stageSet_disjoint (r : Bool) (i i' : Fin 4) (h : i ≠ i') :
    Disjoint ((stageM r).view.slice (stageRect i)).set ((stageM r).view.slice (stageRect i')).set := by
  cases r
  all_goals rw [View.set_slice, View.set_slice]; exact (Finset.disjoint_map _).mpr (stageRect_disjoint i i' h)

theorem stageSet_cover (r : Bool) (x : (stageM r).view.ty.Idx) : ∃ i, x ∈ ((stageM r).view.slice (stageRect i)).set := by
  cases r
  all_goals
    obtain ⟨i, -, hi⟩ := Finset.mem_biUnion.mp (stageRect_cover.symm ▸ Finset.mem_univ x)
    exact ⟨i, by rw [View.set_slice]; exact Finset.mem_map.mpr ⟨x, hi, rfl⟩⟩

theorem commSet_disjoint (r : Bool) (p p' : Fin 2 × Fin 4) (h : p ≠ p') :
    Disjoint (commP r p.1 p.2).view.set (commP r p'.1 p'.2).view.set := by
  rw [commP_set, commP_set, View.set_slice, View.set_slice]
  exact (Finset.disjoint_map _).mpr (commRect_disjoint p p' h)

theorem commSet_cover (r : Bool) (x : (commM r).view.ty.Idx) : ∃ p : Fin 2 × Fin 4, x ∈ (commP r p.1 p.2).view.set := by
  have h : ∃ p : Fin 2 × Fin 4, x ∈ ((commM r).view.slice (commRect p.1 p.2)).set := by
    cases r
    all_goals
      obtain ⟨p, -, hp⟩ := Finset.mem_biUnion.mp (commRect_cover.symm ▸ Finset.mem_univ x)
      exact ⟨p, by rw [View.set_slice]; exact Finset.mem_map.mpr ⟨x, hp, rfl⟩⟩
  obtain ⟨p, hp⟩ := h
  exact ⟨p, (commP_set r p.1 p.2).ge hp⟩

/-- An outgoing buffer held whole is held piece by piece, -/
theorem stage_split (c : Dev nD) (r : Bool) :
    anyWhole (F := F) ((stageM r).view.loc (c : Thread nD τ)) ⊢ bigSep Finset.univ fun i => stageAny (F := F) c r i :=
  pieces_split (ℓ := (stageM r).view.loc (c : Thread nD τ)) (fun i => ((stageM r).view.slice (stageRect i)).set) (stageSet_disjoint r) (stageSet_cover r)

/-- and back. -/
theorem stage_join (c : Dev nD) (r : Bool) :
    (bigSep Finset.univ fun i => stageAny (F := F) c r i) ⊢ anyWhole (F := F) ((stageM r).view.loc (c : Thread nD τ)) :=
  pieces_join (ℓ := (stageM r).view.loc (c : Thread nD τ)) (fun i => ((stageM r).view.slice (stageRect i)).set) (stageSet_disjoint r) (stageSet_cover r)

/-- A landing buffer held whole is held piece by piece, -/
theorem comm_split (c : Dev nD) (r : Bool) :
    anyWhole (F := F) ((commM r).view.loc (c : Thread nD τ)) ⊢ bigSep Finset.univ fun p : Fin 2 × Fin 4 => commAny (F := F) c r p.1 p.2 :=
  pieces_split (ℓ := (commM r).view.loc (c : Thread nD τ)) (fun p : Fin 2 × Fin 4 => (commP r p.1 p.2).view.set) (commSet_disjoint r) (commSet_cover r)

/-- and back. -/
theorem comm_join (c : Dev nD) (r : Bool) :
    (bigSep Finset.univ fun p : Fin 2 × Fin 4 => commAny (F := F) c r p.1 p.2) ⊢ anyWhole (F := F) ((commM r).view.loc (c : Thread nD τ)) :=
  pieces_join (ℓ := (commM r).view.loc (c : Thread nD τ)) (fun p : Fin 2 × Fin 4 => (commP r p.1 p.2).view.set) (commSet_disjoint r) (commSet_cover r)

/-- The result held whole is held piece by piece, -/
theorem out_split (c : Dev nD) (X : Vec F S1024x2048 .f32) :
    (owns (c : Thread nD τ) oM fullShare X : sProp 𝕄) ⊢ bigSep Finset.univ fun p : Bool × Fin 4 => outAny (F := F) c p.1 p.2 := by
  refine (owns_rects (c : Thread nD τ) oM fullShare (fun p : Bool × Fin 4 => outRect p.1 p.2) (fun _ _ => rfl) outRect_disjoint outRect_cover X).trans
    (bigSep_mono fun p _ => ?_)
  unfold outAny
  exact exists_intro (Φ := fun X => owns (c : Thread nD τ) (outP p.1 p.2) fullShare X) _

/-- and back, at contents that hold each piece's. -/
theorem out_join (c : Dev nD) (X : Vec F S1024x2048 .f32) (B : Bool → Fin 4 → Vec F S256x1024 .f32)
    (h : ∀ r i j, X ((outRect r i).emb j) = B r i j) :
    (bigSep Finset.univ fun p : Bool × Fin 4 => owns (c : Thread nD τ) (outP p.1 p.2) fullShare (B p.1 p.2)) ⊢ (owns (c : Thread nD τ) oM fullShare X : sProp 𝕄) := by
  refine .trans (bigSep_mono fun p _ => ?_)
    (owns_of_rects (c : Thread nD τ) oM fullShare (fun p : Bool × Fin 4 => outRect p.1 p.2) (fun _ _ => rfl) outRect_disjoint outRect_cover X)
  exact Entails.of_eq (congrArg (owns (c : Thread nD τ) (outP p.1 p.2) fullShare) (funext fun j => (h p.1 p.2 j).symm))

/-! ## Loads and stores -/

/-- A block as the landing buffer holds it, with a leading axis of one. -/
def unsq {e : EltTy} (X : Vec F S256x1024 e) : Vec F S1x256x1024 e :=
  fun j => X ((Shape.reshapeEquiv squeezes_S1x256x1024_S256x1024.numel_eq).symm j)

/-- What a load of `x` reads at an offset. -/
abbrev xAt (f : Vec F S4096x1024 .f32) (off : Fin 2 → Nat) (h : ∀ a, off a + S256x1024.size a ≤ S4096x1024.size a) : Vec F S256x1024 .f32 :=
  (xM.view).readAt (Elt F) (Rect.unit (s := S4096x1024) off S256x1024.size h).toLoadRect f
abbrev wHalf (f : Vec F S1024x2048 .f32) (r : Bool) : Vec F S1024x1024 .f32 := (wM.view).readAt (Elt F) (wRect r).toLoadRect f
abbrev wFull (f : Vec F S1024x2048 .f32) : Vec F S1024x2048 .f32 := (wM.view).readAt (Elt F) wAll.toLoadRect f

/-- The operands held. -/
def ops (c : Dev nD) (x : Vec F S4096x1024 .f32) (w : Vec F S1024x2048 .f32) : sProp 𝕄 :=
  iprop((xM.view.loc (c : Thread nD τ) ↦{fullShare} x) ∗ (wM.view.loc (c : Thread nD τ) ↦{fullShare} w))

section
variable {α : Type} (c : Dev nD) (x : Vec F S4096x1024 .f32) (w : Vec F S1024x2048 .f32)

theorem wp_loadX {Q : α → sProp 𝕄} (off : Fin 2 → Nat) (h : ∀ a, off a + S256x1024.size a ≤ S4096x1024.size a) (k : Vec F S256x1024 .f32 → PR F α) :
    ops c x w ⊢ iprop((ops c x w -∗ WP c (k (xAt x off h)) Q) -∗ WP c (loadX off h >>= k) Q) := by
  unfold ops loadX
  iintro ⟨Hx, Hw⟩ Hk
  simp only [Prog.lift, Prog.bind_op, Prog.bind_ret]
  iapply (wp_load 𝒱₀ (c : Thread nD τ) none Set.univ (m := xM) (r := (Rect.unit (s := S4096x1024) off S256x1024.size h).toLoadRect)
    (S := Finset.univ) (Finset.subset_univ _)) $$ Hx
  iintro Hx
  iapply Hk
  isplitl [Hx] <;> iassumption

theorem wp_loadW {Q : α → sProp 𝕄} (r : Bool) (k : Vec F S1024x1024 .f32 → PR F α) :
    ops c x w ⊢ iprop((ops c x w -∗ WP c (k (wHalf w r)) Q) -∗ WP c (loadW r >>= k) Q) := by
  unfold ops loadW
  iintro ⟨Hx, Hw⟩ Hk
  simp only [Prog.lift, Prog.bind_op, Prog.bind_ret]
  iapply (wp_load 𝒱₀ (c : Thread nD τ) none Set.univ (m := wM) (r := (wRect r).toLoadRect)
    (S := Finset.univ) (Finset.subset_univ _)) $$ Hw
  iintro Hw
  iapply Hk
  isplitl [Hx] <;> iassumption

theorem wp_loadWAll {Q : α → sProp 𝕄} (k : Vec F S1024x2048 .f32 → PR F α) :
    ops c x w ⊢ iprop((ops c x w -∗ WP c (k (wFull w)) Q) -∗ WP c (loadWAll >>= k) Q) := by
  unfold ops loadWAll
  iintro ⟨Hx, Hw⟩ Hk
  simp only [Prog.lift, Prog.bind_op, Prog.bind_ret]
  iapply (wp_load 𝒱₀ (c : Thread nD τ) none Set.univ (m := wM) (r := wAll.toLoadRect)
    (S := Finset.univ) (Finset.subset_univ _)) $$ Hw
  iintro Hw
  iapply Hk
  isplitl [Hx] <;> iassumption

/-- A load of a landed piece. -/
theorem wp_loadComm {Q : α → sProp 𝕄} (r : Bool) (s : Fin 2) (i : Fin 4) (X : Vec F S256x1024 .bf16) (k : Vec F S1x256x1024 .bf16 → PR F α) :
    owns (c : Thread nD τ) (commP r s i) fullShare X
      ⊢ iprop((owns (c : Thread nD τ) (commP r s i) fullShare X -∗ WP c (k (unsq X)) Q) -∗ WP c (loadComm r s i >>= k) Q) := by
  unfold loadComm owns
  simp only [Prog.lift, Prog.bind_op, Prog.bind_ret]
  iintro ⟨%f, %hf, H⟩ Hk
  subst hf
  have hs : (commM r).view.setOn (commRect s i).toLoadRect.set ⊆ (commP r s i).view.set := by
    cases r <;> (rw [commP_set, View.set_slice]; exact subset_rfl)
  have hv : (commM r).view.readAt (Elt F) (commRect s i).toLoadRect f = unsq ((commP r s i).view.read (Elt F) f) := by
    funext j
    have key : ∀ y, (commP r s i).view.read (Elt F) f y
        = (commM r).view.readAt (Elt F) (commRect s i).toLoadRect f (Shape.reshapeEquiv squeezes_S1x256x1024_S256x1024.numel_eq y) := fun y => by
      cases r <;> rfl
    unfold unsq
    rw [key, Equiv.apply_symm_apply]
  rw [← hv]
  iapply (wp_load 𝒱₀ (c : Thread nD τ) none Set.univ (m := commM r) (r := (commRect s i).toLoadRect) hs) $$ H
  iintro H
  iapply Hk
  iexists f
  isplitr; · ipureintro; rfl
  iexact H

/-- A store of a piece of an outgoing buffer. -/
theorem wp_putStage {Q : α → sProp 𝕄} (r : Bool) (i : Fin 4) (v : Vec F S256x1024 .bf16) (k : PUnit → PR F α) :
    stageAny c r i ⊢ iprop((owns (c : Thread nD τ) (stageP r i) fullShare v -∗ WP c (k ⟨⟩) Q) -∗ WP c (putStage r i v >>= k) Q) := by
  unfold putStage stageAny anyOn owns
  simp only [Prog.lift, Prog.bind_op, Prog.bind_ret]
  iintro ⟨%f, H⟩ Hk
  iapply (wp_load 𝒱₀ (c : Thread nD τ) none Set.univ (m := stageM r) (r := (stageRect i).toLoadRect) (S := (stageP r i).view.set)
    ((stageM r).view.set_slice (stageRect i)).ge) $$ H
  iintro H
  iapply (wp_store 𝒱₀ (c : Thread nD τ) none Set.univ (m := stageM r) (r := stageRect i) (Mk := Finset.univ) (S := (stageP r i).view.set)
    subset_rfl) $$ H
  iintro H
  iapply Hk
  iexists _
  isplitr; swap; · iexact H
  ipureintro
  exact View.read_write_univ _ _

/-- A store of a piece of the result. -/
theorem wp_putOut {Q : α → sProp 𝕄} (r : Bool) (i : Fin 4) (v : Vec F S256x1024 .f32) (k : PUnit → PR F α) :
    outAny c r i ⊢ iprop((owns (c : Thread nD τ) (outP r i) fullShare v -∗ WP c (k ⟨⟩) Q) -∗ WP c (putOut r i v >>= k) Q) := by
  unfold putOut outAny owns
  simp only [Prog.lift, Prog.bind_op, Prog.bind_ret]
  iintro ⟨%X, %f, -, H⟩ Hk
  iapply (wp_load 𝒱₀ (c : Thread nD τ) none Set.univ (m := oM) (r := (outRect r i).toLoadRect) (S := (outP r i).view.set)
    (oM.view.set_slice (outRect r i)).ge) $$ H
  iintro H
  iapply (wp_store 𝒱₀ (c : Thread nD τ) none Set.univ (m := oM) (r := outRect r i) (Mk := Finset.univ) (S := (outP r i).view.set)
    subset_rfl) $$ H
  iintro H
  iapply Hk
  iexists _
  isplitr; swap; · iexact H
  ipureintro
  exact View.read_write_univ _ _

end

end Cert.RingProof

end
-- ==== Proof.Protocol.lean ====
module

public import proofs.«01_k».proof.Proof.Views

@[expose] public section

noncomputable section

/-! # The protocol: the semaphore cells, what each passes on, what each device owes -/

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring of devices -/

set_option backward.proofsInPublic true in
/-- The next device, and the one before. -/
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
/-- The device that ring `r` sends to from `c`, and the one that `c` receives from. -/
def dn : Bool → Dev nD → Dev nD | true => nxt | false => prv
def up : Bool → Dev nD → Dev nD | true => prv | false => nxt

theorem up_dn (r : Bool) (c : Dev nD) : up r (dn r c) = c := by revert r c; decide
theorem dn_up (r : Bool) (c : Dev nD) : dn r (up r c) = c := by revert r c; decide

theorem dev1_eq (c : Dev nD) : (⟨k0_dev1 c, k0_dev1_lt c⟩ : Dev nD) = up true c := Fin.ext (k0_dev1_eq c)
theorem dev2_eq (c : Dev nD) : (⟨k0_dev2 c, k0_dev2_lt c⟩ : Dev nD) = up false c := Fin.ext (k0_dev2_eq c)
theorem credDst_eq (c : Dev nD) : ∀ r, credDst c r = up r c
  | true => Fin.ext (k0_dev17_eq c)
  | false => Fin.ext (k0_dev19_eq c)
theorem dst_eq (c : Dev nD) : ∀ r s i, dst c r s i = dn r c
  | true, 0, 0 => Fin.ext (k0_dev3_eq c) | false, 0, 0 => Fin.ext (k0_dev4_eq c)
  | true, 0, 1 => Fin.ext (k0_dev5_eq c) | false, 0, 1 => Fin.ext (k0_dev6_eq c)
  | true, 0, 2 => Fin.ext (k0_dev7_eq c) | false, 0, 2 => Fin.ext (k0_dev8_eq c)
  | true, 0, 3 => Fin.ext (k0_dev9_eq c) | false, 0, 3 => Fin.ext (k0_dev10_eq c)
  | true, 1, 0 => Fin.ext (k0_dev11_eq c) | false, 1, 0 => Fin.ext (k0_dev12_eq c)
  | true, 1, 1 => Fin.ext (k0_dev13_eq c) | false, 1, 1 => Fin.ext (k0_dev14_eq c)
  | true, 1, 2 => Fin.ext (k0_dev15_eq c) | false, 1, 2 => Fin.ext (k0_dev16_eq c)
  | true, 1, 3 => Fin.ext (k0_dev18_eq c) | false, 1, 3 => Fin.ext (k0_dev20_eq c)
  | true, 2, 0 => Fin.ext (k0_dev21_eq c) | false, 2, 0 => Fin.ext (k0_dev22_eq c)
  | true, 2, 1 => Fin.ext (k0_dev23_eq c) | false, 2, 1 => Fin.ext (k0_dev24_eq c)
  | true, 2, 2 => Fin.ext (k0_dev25_eq c) | false, 2, 2 => Fin.ext (k0_dev26_eq c)
  | true, 2, 3 => Fin.ext (k0_dev27_eq c) | false, 2, 3 => Fin.ext (k0_dev28_eq c)

/-! ## What the blocks hold -/

section Contents
variable (X : Dev nD → Vec F S4096x1024 .f32) (W : Dev nD → Vec F S1024x2048 .f32)

/-- The rows of `x` whose product device `c` starts ring `r` with. -/
def xInit (c : Dev nD) (r : Bool) (i : Fin 4) : Vec F S256x1024 .f32 :=
  match r with
  | true => xAt (X c) (k0_off1 c (subW i)) (k0_off1_inb c i)
  | false => xAt (X c) (k0_off2 c (subW i)) (k0_off2_inb c i)
/-- The rows of `x` an even hop adds the product of; the rows of the odd hop. -/
def xHop (c : Dev nD) (s : Fin 3) (i : Fin 4) : Vec F S256x1024 .f32 := xAt (X c) (k0_off3 c (hopW s) (subW i)) (k0_off3_inb c s i)
def xOdd (c : Dev nD) (r : Bool) (i : Fin 4) : Vec F S256x1024 .f32 :=
  match r with
  | true => xAt (X c) (k0_off3 c (hopW 1) (subW i)) (k0_off3_inb c 1 i)
  | false => xAt (X c) (k0_off4 c (subW i)) (k0_off4_inb c i)

/-- The local product that device `c` adds at a hop. -/
def prodV (c : Dev nD) (r : Bool) (s : Fin 3) (i : Fin 4) : FVec F S256x1024 .f32 :=
  match s with
  | 0 => evenVal r (xHop X c 0 i) (wFull (W c))
  | 1 => oddVal (xOdd X c r i) (wHalf (W c) r)
  | 2 => evenVal r (xHop X c 2 i) (wFull (W c))

/-- The block that device `c` sends at a hop. -/
def sent0 (r : Bool) (i : Fin 4) (c : Dev nD) : FVec F S256x1024 .bf16 := initVal (xInit X c r i) (wHalf (W c) r)
def sent1 (r : Bool) (i : Fin 4) (c : Dev nD) : FVec F S256x1024 .bf16 := stepVal (prodV X W c r 0 i) (unsq (sent0 X W r i (up r c)))
def sent2 (r : Bool) (i : Fin 4) (c : Dev nD) : FVec F S256x1024 .bf16 := stepVal (prodV X W c r 1 i) (unsq (sent1 X W r i (up r c)))
def sent (r : Bool) (s : Fin 3) (i : Fin 4) (c : Dev nD) : FVec F S256x1024 .bf16 :=
  match s with | 0 => sent0 X W r i c | 1 => sent1 X W r i c | 2 => sent2 X W r i c
/-- The subtile of the result that device `c` writes. -/
def outV (c : Dev nD) (r : Bool) (i : Fin 4) : FVec F S256x1024 .f32 := lastVal (prodV X W c r 2 i) (unsq (sent X W r 2 i (up r c)))

theorem sent_hop (r : Bool) (s : Fin 2) (i : Fin 4) (c : Dev nD) :
    sent X W r (hopS s) i c = stepVal (prodV X W c r (hop s) i) (unsq (sent X W r (hop s) i (up r c))) := by
  fin_cases s <;> rfl

end Contents

/-! ## The cells -/

/-- A ring, a subtile and a hop. -/
abbrev J : Type := (Bool × Fin 4) × Fin 3
/-- The kernel's own semaphores: send, receive, credit. -/
abbrev Own : Type := (J ⊕ J) ⊕ Bool
/-- All semaphores: the own ones, and the barrier's (`none`). -/
abbrev Cl : Type := Option Own

instance : DecidableEq Cl := fun a b => match a, b with
  | none, none => isTrue rfl
  | none, some _ => isFalse fun h => nomatch h
  | some _, none => isFalse fun h => nomatch h
  | some a, some b => decidable_of_iff (a = b) ⟨congrArg some, Option.some.inj⟩

abbrev sndC (r : Bool) (s : Fin 3) (i : Fin 4) : Own := .inl (.inl ((r, i), s))
abbrev rcvC (r : Bool) (s : Fin 3) (i : Fin 4) : Own := .inl (.inr ((r, i), s))
abbrev crdC (r : Bool) : Own := .inr r

abbrev osem : Own → SemLoc sig
  | .inl (.inl j) => .dma (sendS j.1.1 j.2 j.1.2)
  | .inl (.inr j) => .dma (recvS j.1.1 j.2 j.1.2)
  | .inr r => .reg (credA r).sem
abbrev csem : Cl → SemLoc sig
  | none => .reg barA.sem
  | some k => osem k

theorem csem_injective : Function.Injective csem := by decide +kernel

/-- The semaphore's name, if the protocol has one for it. -/
def clOf (sm : SemLoc sig) : Option Cl := Function.partialInv csem sm
theorem clOf_csem (k : Cl) : clOf (csem k) = some k := Function.partialInv_left csem_injective k

abbrev kcell (ck : Dev nD × Cl) : GSem nD τ sig := ((ck.1 : Thread nD τ), csem ck.2)
theorem kcell_injective : Function.Injective kcell := by
  rintro ⟨c, k⟩ ⟨c', k'⟩ h
  have h1 := congrArg (fun g : GSem nD τ sig => g.1.1) h
  have h2 := csem_injective (congrArg (fun g : GSem nD τ sig => g.2) h)
  exact Prod.ext h1 h2

/-- The credit of one transfer. -/
def N : ℕ := (commP true 0 0).view.dmaCredit
theorem N_pos : 0 < N := View.dmaCredit_pos _ (by decide)
theorem commP_credit (r : Bool) (s : Fin 2) (i : Fin 4) : (commP r s i).view.dmaCredit = N := by cases r <;> rfl
theorem stageP_credit (r : Bool) (i : Fin 4) : (stageP r i).view.dmaCredit = N := by cases r <;> rfl

/-- What completes a cell's round. -/
def amt : Cl → ℕ
  | some (.inl _) => N
  | _ => 1
theorem amt_pos (k : Cl) : 0 < amt k := by
  rcases k with _ | ((_ | _) | _) <;> first | exact N_pos | exact Nat.one_pos

section Sched
variable (X : Dev nD → Vec F S4096x1024 .f32) (W : Dev nD → Vec F S1024x2048 .f32)

/-- Slot 0 of a ring's landing buffer; and the whole buffer. -/
def slot0 (c : Dev nD) (r : Bool) : sProp 𝕄 := bigSep Finset.univ fun i => commAny (F := F) c r 0 i
def slot1 (c : Dev nD) (r : Bool) : sProp 𝕄 := bigSep Finset.univ fun i => commAny (F := F) c r 1 i

instance (c : Dev nD) (r : Bool) : BI.Storable (upEmb : UEmb _ 𝕄) (slot0 (F := F) c r) := by unfold slot0; infer_instance
instance (c : Dev nD) (r : Bool) : BI.Storable (upEmb : UEmb _ 𝕄) (slot1 (F := F) c r) := by unfold slot1; infer_instance

/-- What device `d`'s cell passes on: the barrier, the neighbours' landing buffers; a send semaphore, the outgoing piece
    with what was sent; a receive semaphore, the landed piece with what the neighbour sent; a credit, the neighbour's slot 0. -/
def payOf (d : Dev nD) : Cl → Bool → sProp 𝕄
  | none, r => iprop(slot0 (dn r d) r ∗ slot1 (dn r d) r)
  | some (.inl (.inl ((r, i), s))), _ => owns (d : Thread nD τ) (stageP r i) fullShare (sent X W r s i d)
  | some (.inl (.inr ((r, i), s))), _ => owns (d : Thread nD τ) (commP r (slot s) i) fullShare (sent X W r s i (up r d))
  | some (.inr r), _ => slot0 (dn r d) r

instance (d : Dev nD) (k : Cl) (b : Bool) : BI.Storable (upEmb : UEmb _ 𝕄) (payOf X W d k b) := by
  rcases k with _ | ((⟨⟨r, i⟩, s⟩ | ⟨⟨r, i⟩, s⟩) | r) <;> (unfold payOf; infer_instance)

/-- Which payments a cell's round takes: the barrier's, one from each side; every other cell's, one. -/
def dutiesOf : Option Cl → Finset Bool
  | some none => Finset.univ
  | some (some _) => {false}
  | none => ∅

def payAt (d : Dev nD) : Option Cl → Bool → sProp 𝕄
  | some k, b => payOf X W d k b
  | none, _ => iprop(emp)

instance (d : Dev nD) (k : Option Cl) (b : Bool) : BI.Storable (upEmb : UEmb _ 𝕄) (payAt X W d k b) := by
  rcases k with _ | k <;> (unfold payAt; infer_instance)

def Rd : Rounds.Schedule (GSem nD τ sig) Bool 𝕄 where
  duties g r := if r = 0 ∧ g.1.2 = .tc then dutiesOf (clOf g.2) else ∅
  unitless _ := False
  amount g _ _ := match clOf g.2 with | some k => amt k | none => 1
  payload g _ b := payAt X W g.1.1 (clOf g.2) b
  amount_pos g _ _ _ := by
    cases h : clOf g.2
    · exact Nat.one_pos
    · exact amt_pos _

instance Rd_storable (g : GSem nD τ sig) (r : ℕ) (d : Bool) : BI.Storable (upEmb : UEmb _ 𝕄) ((Rd X W).payload g r d) := by
  unfold Rd; infer_instance

theorem duties_own (c : Dev nD) (k : Own) : (Rd X W).duties ((c : Thread nD τ), osem k) 0 = {false} := by
  dsimp only [Rd]; rw [if_pos ⟨rfl, rfl⟩, show clOf (osem k) = some (some k) from clOf_csem (some k)]; rfl
theorem duties_bar (c : Dev nD) : (Rd X W).duties ((c : Thread nD τ), .reg barA.sem) 0 = Finset.univ := by
  dsimp only [Rd]; rw [if_pos ⟨rfl, rfl⟩, show clOf (.reg barA.sem) = some none from clOf_csem none]; rfl
theorem duties_later (g : GSem nD τ sig) : ∀ r, 1 ≤ r → (Rd X W).duties g r = ∅ := fun r hr => by
  dsimp only [Rd]; rw [if_neg fun h => by omega]
theorem amount_cell (c : Dev nD) (k : Cl) (b : Bool) : (Rd X W).amount ((c : Thread nD τ), csem k) 0 b = amt k := by
  dsimp only [Rd]; rw [clOf_csem k]
theorem payload_cell (c : Dev nD) (k : Cl) (b : Bool) : (Rd X W).payload ((c : Thread nD τ), csem k) 0 b = payOf X W c k b := by
  dsimp only [Rd]; rw [clOf_csem k]; rfl
theorem expect_own (c : Dev nD) (k : Own) : (Rd X W).expect ((c : Thread nD τ), osem k) 0 = amt (some k) := by
  unfold Schedule.expect Schedule.amountOf
  rw [duties_own, Finset.sum_singleton]; exact amount_cell X W c (some k) false
theorem expect_bar (c : Dev nD) : (Rd X W).expect ((c : Thread nD τ), .reg barA.sem) 0 = 2 := by
  unfold Schedule.expect Schedule.amountOf
  rw [duties_bar, Finset.sum_congr rfl fun d _ => amount_cell X W c none d]; rfl
theorem rest_own (c : Dev nD) (k : Own) :
    bigSep ((Rd X W).duties ((c : Thread nD τ), osem k) 0 \ ∅) (fun d => (Rd X W).payload ((c : Thread nD τ), osem k) 0 d) = payOf X W c (some k) false := by
  rw [Finset.sdiff_empty, duties_own, bigSep_singleton]; exact payload_cell X W c (some k) false
theorem rest_bar (c : Dev nD) :
    bigSep ((Rd X W).duties ((c : Thread nD τ), .reg barA.sem) 0 \ ∅) (fun d => (Rd X W).payload ((c : Thread nD τ), .reg barA.sem) 0 d)
      = bigSep Finset.univ fun r : Bool => iprop(slot0 (F := F) (dn r c) r ∗ slot1 (dn r c) r) := by
  rw [Finset.sdiff_empty, duties_bar]
  exact bigSep_congr fun r _ => payload_cell X W c none r

end Sched

/-! ## What a device owes, and the order of waiting -/

/-- A payment to another device's cell: to the barrier, a transfer, a credit. -/
inductive Pay
  | bar (r : Bool)
  | xfer (r : Bool) (s : Fin 3) (i : Fin 4)
  | crd (r : Bool)

namespace Pay
/-- Whose cell `c` pays, and which. -/
def dev (c : Dev nD) : Pay → Dev nD
  | bar r => up r c
  | xfer r _ _ => dn r c
  | crd r => up r c
def cl : Pay → Cl
  | bar _ => none
  | xfer r s i => some (rcvC r s i)
  | crd r => some (crdC r)
end Pay

/-- The rank of a cell in the order of waiting. -/
def lvl : Cl → ℕ
  | none => 1
  | some (.inl (.inl _)) => 0
  | some (.inl (.inr j)) => 2 + 2 * j.2.val
  | some (.inr _) => 3

/-- The tally of a list of payments that `c` has still to make. -/
def owed (c : Dev nD) : List Pay → CellTallies nD τ sig Unit
  | [] => 0
  | p :: l => owed c l + tallyAt (kcell (p.dev c, p.cl)) () (amt p.cl)

def L (g : GSem nD τ sig) : Finset Unit := if g.1.2 = .tc then {()} else ∅
def lv (g : GSem nD τ sig) (_ : Unit) : ℕ := match clOf g.2 with | some k => lvl k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cl) (u : Unit) : lv ((c : Thread nD τ), csem k) u = lvl k := by
  unfold lv; rw [clOf_csem k]

theorem owed_pos {c : Dev nD} {g : GSem nD τ sig} {u : Unit} : ∀ {l : List Pay}, 0 < owed c l g u → ∃ p ∈ l, g = kcell (p.dev c, p.cl)
  | [], h => absurd h (Nat.lt_irrefl 0)
  | p :: l, h => by
    unfold owed at h
    rw [Pi.add_apply, Finsupp.add_apply, tallyAt_apply] at h
    by_cases hg : g = kcell (p.dev c, p.cl)
    · exact ⟨p, List.mem_cons_self, hg⟩
    · rw [if_neg (fun h' => hg h'.1), Nat.add_zero] at h
      obtain ⟨q, hq, e⟩ := owed_pos h
      exact ⟨q, List.mem_cons_of_mem _ hq, e⟩

/-- A wait on a semaphore ranked below all that is owed may be made. -/
theorem mayWait_of (c : Dev nD) (sm : SemLoc sig) (cut : ℕ) (l : List Pay) (hs : lv ((c : Thread nD τ), sm) () ≤ cut) (h : ∀ p ∈ l, cut < lvl p.cl) :
    (levAts L lv : sProp 𝕄) ⊢ MayWait (c : Thread nD τ) sm () (owed c l) :=
  MayOwe.of_cut (L := L) (lev := lv) cut (fun p hp => by rw [Finset.mem_singleton.mp hp, L_tc]; exact Finset.mem_singleton_self _)
    (fun g u hg => by obtain ⟨p, hp, rfl⟩ := owed_pos hg; rw [L_tc]; exact Finset.mem_singleton_self _)
    (fun p hp => by rw [Finset.mem_singleton.mp hp]; exact hs)
    (fun g u hg => by obtain ⟨p, hp, rfl⟩ := owed_pos hg; rw [lv_cell]; exact h p hp)

theorem mayWait_cl (c : Dev nD) (k : Cl) (l : List Pay) (h : ∀ p ∈ l, lvl k < lvl p.cl) :
    (levAts L lv : sProp 𝕄) ⊢ MayWait (c : Thread nD τ) (csem k) () (owed c l) :=
  mayWait_of c (csem k) (lvl k) l (lv_cell c k ()).le h

end Cert.RingProof

end
-- ==== Proof.Steps.lean ====
module

public import proofs.«01_k».proof.Proof.Protocol

@[expose] public section

noncomputable section

/-! # One rule for each step of the body -/

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x1024 .f32) (W : Dev nD → Vec F S1024x2048 .f32) (K : Dev nD × Cl → ℕ)

/-! ## What everyone knows, and what a device holds -/

/-- Every cell's invariant, that its round 0 has begun, and the order of waiting. -/
def ctx : sProp 𝕄 :=
  iprop((bigSep Finset.univ fun ck : Dev nD × Cl => (cellInv ER (Rd X W) (K ck) (kcell ck) : sProp 𝕄))
    ∗ (bigSep Finset.univ fun ck : Dev nD × Cl => (reached ER (kcell ck) 0 : sProp 𝕄)) ∗ levAts L lv)

instance ctx_persistent : BI.Persistent (ctx X W K) := by unfold ctx; infer_instance

theorem inv_of (ck : Dev nD × Cl) :
    (bigSep Finset.univ fun ck : Dev nD × Cl => (cellInv ER (Rd X W) (K ck) (kcell ck) : sProp 𝕄)) ⊢ cellInv ER (Rd X W) (K ck) (kcell ck) :=
  bigSep_elim (Finset.mem_univ ck)
theorem reached_of (ck : Dev nD × Cl) :
    (bigSep Finset.univ fun ck : Dev nD × Cl => (reached ER (kcell ck) 0 : sProp 𝕄)) ⊢ reached ER (kcell ck) 0 :=
  bigSep_elim (Finset.mem_univ ck)

theorem inv_at (ck : Dev nD × Cl) : ctx X W K ⊢ cellInv ER (Rd X W) (K ck) (kcell ck) := by
  unfold ctx
  iintro ⟨H, -⟩
  iapply (inv_of X W K ck); iexact H
theorem reached_at (ck : Dev nD × Cl) : ctx X W K ⊢ reached ER (kcell ck) 0 := by
  unfold ctx
  iintro ⟨-, H, -⟩
  iapply (reached_of (F := F) ck); iexact H
theorem lev_at : ctx X W K ⊢ levAts L lv := by
  unfold ctx
  iintro ⟨-, -, H⟩
  iexact H

/-- Device `c` has the payments `l` still to make. -/
def due (c : Dev nD) (l : List Pay) : sProp 𝕄 := iprop(∃ Ws, owes (c : Thread nD τ) (owed c l) Ws)

/-- The right to pay cell `k` of device `c`. -/
abbrev tok (c : Dev nD) (k : Cl) (b : Bool) : sProp 𝕄 := dutyTok ER (kcell (c, k)) 0 b
/-- Device `c` is at round `n` of its cell `k`. -/
abbrev pos (c : Dev nD) (k : Cl) (n : ℕ) : sProp 𝕄 := atPos ER (kcell (c, k)) n ∅ 0
/-- Device `c`'s claim on `n` units at its cell `k`. -/
abbrev claimOn (c : Dev nD) (k : Cl) : sProp 𝕄 := cred (tallyAt (kcell (c, k)) () (amt k))

/-- What a transfer needs: the right to pay the own send cell and the neighbour's receive cell. -/
def sendToks (c : Dev nD) (r : Bool) (s : Fin 3) (i : Fin 4) : sProp 𝕄 :=
  iprop(tok c (some (sndC r s i)) false ∗ tok (dn r c) (some (rcvC r s i)) false)
/-- What waiting for a hop needs beside the claim on the own send; and what it leaves. -/
def waitPos (c : Dev nD) (r : Bool) (s : Fin 3) (i : Fin 4) : sProp 𝕄 :=
  iprop(pos c (some (sndC r s i)) 0 ∗ pos c (some (rcvC r s i)) 0 ∗ claimOn c (some (rcvC r s i)))
def donePos (c : Dev nD) (r : Bool) (s : Fin 3) (i : Fin 4) : sProp 𝕄 :=
  iprop(pos c (some (sndC r s i)) 1 ∗ pos c (some (rcvC r s i)) 1)

/-- What the cells pass on, case by case. -/
theorem payOf_snd (c : Dev nD) (r : Bool) (s : Fin 3) (i : Fin 4) (b : Bool) :
    payOf X W c (some (sndC r s i)) b = owns (c : Thread nD τ) (stageP r i) fullShare (sent X W r s i c) := rfl
theorem payOf_rcv (c : Dev nD) (r : Bool) (s : Fin 3) (i : Fin 4) (b : Bool) :
    payOf X W c (some (rcvC r s i)) b = owns (c : Thread nD τ) (commP r (slot s) i) fullShare (sent X W r s i (up r c)) := rfl
theorem payOf_crd' (c : Dev nD) (r b : Bool) : payOf X W c (some (crdC r)) b = slot0 (F := F) (dn r c) r := rfl
theorem payOf_bar (c : Dev nD) (r : Bool) : payOf X W (up r c) none r = iprop(slot0 (F := F) c r ∗ slot1 c r) := by
  rw [show payOf X W (up r c) none r = iprop(slot0 (F := F) (dn r (up r c)) r ∗ slot1 (dn r (up r c)) r) from rfl, dn_up]
theorem payOf_crd (c : Dev nD) (r b : Bool) : payOf X W (up r c) (some (crdC r)) b = slot0 (F := F) c r := by
  rw [payOf_crd', dn_up]

theorem rest_bar' (c : Dev nD) :
    bigSep ((Rd X W).duties ((c : Thread nD τ), .reg barA.sem) 0 \ ∅) (fun d => (Rd X W).payload ((c : Thread nD τ), .reg barA.sem) 0 d)
      = iprop((slot0 (F := F) (dn false c) false ∗ slot1 (dn false c) false) ∗ (slot0 (dn true c) true ∗ slot1 (dn true c) true)) := by
  rw [rest_bar, bigSep_univ_eq_bigSepL [false, true] (by decide) (by decide), bigSepL_cons_cons, bigSepL_singleton]
  rfl

theorem lvl_pos (p : Pay) : 0 < lvl p.cl := by cases p <;> simp [lvl, Pay.cl]

section
variable {α : Type} (c : Dev nD)

/-- A wait that completes a cell's round gives what the cell passes on. -/
theorem wp_waitCl {Q : α → sProp 𝕄} {w : TpuEff nD τ sig (Elt F) Λ₀ .tc PUnit} (k : Own) (l : List Pay) (h : ∀ p ∈ l, lvl (some k) < lvl p.cl)
    (hw : ∀ Q : PUnit → sProp 𝕄, wpE (defs₀ (F := F)) 𝒱₀ (c : Thread nD τ) none Set.univ w Q
      = waitSpec (c : Thread nD τ) Set.univ (osem k) (amt (some k)) Q)
    (kk : PUnit → PR F α) :
    iprop(ctx X W K ∗ due c l ∗ claimOn c (some k) ∗ pos c (some k) 0)
      ⊢ iprop(((due c l ∗ pos c (some k) 1 ∗ payOf X W c (some k) false) -∗ WP c (kk ⟨⟩) Q) -∗ WP c (.op w kk) Q) := by
  unfold due
  iintro ⟨#Hctx, ⟨%Ws, HO⟩, Hc, Hat⟩ Hk
  iapply (Rounds.wp_wait_rest_token 𝒱₀ ER (Rd X W) (c : Thread nD τ) none (κ := K (c, some k)) (sm := osem k) (k' := amt (some k))
      hw (Set.mem_univ _) () (O := owed c l) (W := Ws) (R := 0) (m := 0) (T := ∅)
      (by rw [Nat.zero_add, expect_own])) $$ [Hc HO Hat]
  · isplitr; · iapply (inv_at X W K (c, some k)); iexact Hctx
    isplitl [Hc]; · iexact Hc
    isplitl [HO]; · iexact HO
    isplitr
    · iapply (mayWait_cl c (some k) l h); iapply (lev_at X W K); iexact Hctx
    iexact Hat
  iintro ⟨HO, Hat, -, Hpay⟩
  iapply Hk
  isplitl [HO]; · iexists _; iexact HO
  isplitl [Hat]; · iexact Hat
  iapply (Entails.of_eq (rest_own X W c k)); iexact Hpay

/-- Both waits of a hop: the own outgoing piece back, the neighbour's block landed. -/
theorem wp_waits {Q : α → sProp 𝕄} (r : Bool) (s : Fin 3) (i : Fin 4) (l : List Pay) (h : ∀ p ∈ l, 2 + 2 * s.val < lvl p.cl)
    (kk : PUnit → PR F α) :
    iprop(ctx X W K ∗ due c l ∗ claimOn c (some (sndC r s i)) ∗ waitPos c r s i)
      ⊢ iprop(((due c l ∗ donePos c r s i ∗ owns (c : Thread nD τ) (stageP r i) fullShare (sent X W r s i c)
            ∗ owns (c : Thread nD τ) (commP r (slot s) i) fullShare (sent X W r s i (up r c))) -∗ WP c (kk ⟨⟩) Q)
          -∗ WP c (waits r s i >>= kk) Q) := by
  unfold waits waitPos donePos
  simp only [Prog.lift, Prog.bind_op, Prog.bind_ret]
  iintro ⟨#Hctx, HO, Hc, Hp1, Hp2, Hc2⟩ Hk
  iapply (wp_waitCl X W K c (sndC r s i) l (fun p _ => lvl_pos p)
    (fun Q => by rw [wpE_waitDma2_eq, stageP_credit]; rfl)) $$ [HO Hc Hp1]
  · isplitr; · iexact Hctx
    isplitl [HO]; · iexact HO
    isplitl [Hc] <;> iassumption
  iintro ⟨HO, Hp1, Hs⟩
  iapply (wp_waitCl X W K c (rcvC r s i) l h
    (fun Q => by rw [wpE_waitDma2_eq, commP_credit]; rfl)) $$ [HO Hc2 Hp2]
  · isplitr; · iexact Hctx
    isplitl [HO]; · iexact HO
    isplitl [Hc2] <;> iassumption
  iintro ⟨HO, Hp2, Hr⟩
  iapply Hk
  isplitl [HO]; · iexact HO
  isplitl [Hp1 Hp2]; · isplitl [Hp1] <;> iassumption
  isplitl [Hs]; · iapply (Entails.of_eq (payOf_snd X W c r s i false)); iexact Hs
  iapply (Entails.of_eq (payOf_rcv X W c r s i false)); iexact Hr

/-- Starting the copy of a subtile, the next of the payments still to make. -/
theorem wp_sendTo {Q : α → sProp 𝕄} (r : Bool) (s : Fin 3) (i : Fin 4) (l : List Pay) (kk : PUnit → PR F α) (n : Dev nD) (hn : n = dn r c)
    {hsc : (commP r (slot s) i : Memref sig (Dev.tc n : Thread nD τ).2.kind .vmem S256x1024 .bf16).view.ref.isScScratch = false}
    {hsrc : (stageP r i).view.WordExact} {hdst : (commP r (slot s) i).view.WordExact}
    {hsem : DmaTarget.Typed .vmem (.dma (recvS r s i))
      (.remote (Dev.tc n : Thread nD τ) (commP r (slot s) i : Memref sig (Dev.tc n : Thread nD τ).2.kind .vmem S256x1024 .bf16) (.dma (sendS r s i)) hsc)} :
    iprop(ctx X W K ∗ due c (.xfer r s i :: l) ∗ sendToks c r s i ∗ owns (c : Thread nD τ) (stageP r i) fullShare (sent X W r s i c)
        ∗ commAny (dn r c) r (slot s) i)
      ⊢ iprop(((due c l ∗ claimOn c (some (sndC r s i))) -∗ WP c (kk ⟨⟩) Q)
          -∗ WP c (.op (.enqueueDma (stageP r i) (.remote (Dev.tc n : Thread nD τ) (commP r (slot s) i) (.dma (sendS r s i)) hsc)
              (.dma (recvS r s i)) hsrc hdst hsem) kk) Q) := by
  subst hn
  unfold sendToks due commAny anyOn
  iintro ⟨#Hctx, ⟨%Ws, HO⟩, ⟨Ht1, Ht2⟩, Hs, ⟨%fd, Hd⟩⟩ Hk
  unfold owns
  icases Hs with ⟨%fs, %hfs, Hs⟩
  iapply (Rounds.wp_send_pointsTo 𝒱₀ ER (Rd X W) (c : Thread nD τ) none (κ₁ := K (c, some (sndC r s i))) (κ₂ := K (dn r c, some (rcvC r s i)))
    (c' := (dn r c : Thread nD τ)) (src := stageP r i) (dst := commP r (slot s) i) (sS := .dma (sendS r s i)) (sem := .dma (recvS r s i)) (fs := fs) (q := fullShare)
    (r₁ := 0) (r₂ := 0) (d₁ := false) (d₂ := false) (fd := fd)
    (by rw [show SemLoc.dma (sendS r s i) = osem (sndC r s i) from rfl, duties_own]; exact Finset.mem_singleton_self _)
    (by rw [show SemLoc.dma (recvS r s i) = osem (rcvC r s i) from rfl, duties_own]; exact Finset.mem_singleton_self _)
    () () N (commP_credit r (slot s) i) (amount_cell X W c (some (sndC r s i)) false) (amount_cell X W (dn r c) (some (rcvC r s i)) false)
    (owed c l) rfl (W := Ws)
    (by
      rw [show SemLoc.dma (sendS r s i) = osem (sndC r s i) from rfl, show osem (sndC r s i) = csem (some (sndC r s i)) from rfl, payload_cell]
      unfold payOf owns
      iintro H
      iexists fs
      isplitr; · ipureintro; exact hfs
      iexact H)
    (by
      rw [show SemLoc.dma (recvS r s i) = osem (rcvC r s i) from rfl, show osem (rcvC r s i) = csem (some (rcvC r s i)) from rfl, payload_cell]
      unfold payOf owns
      iintro H
      iexists _
      isplitr; swap; · iexact H
      ipureintro
      rw [View.read_write_univ, hfs, up_dn])) $$ [HO Ht1 Ht2 Hs Hd]
  · isplitr; · iapply (inv_at X W K (c, some (sndC r s i))); iexact Hctx
    isplitr; · iapply (inv_at X W K (dn r c, some (rcvC r s i))); iexact Hctx
    isplitl [Hs]; · iexact Hs
    isplitl [Hd]; · iexact Hd
    isplitl [HO]; · iexact HO
    isplitl [Ht1]; · iexact Ht1
    isplitr; · iapply (reached_at X W K (c, some (sndC r s i))); iexact Hctx
    isplitl [Ht2]; · iexact Ht2
    iapply (reached_at X W K (dn r c, some (rcvC r s i))); iexact Hctx
  iintro ⟨Hc, HO⟩
  iapply Hk
  isplitl [HO]; · iexists _; iexact HO
  iexact Hc

theorem wp_send {Q : α → sProp 𝕄} (r : Bool) (s : Fin 3) (i : Fin 4) (l : List Pay) (kk : PUnit → PR F α) :
    iprop(ctx X W K ∗ due c (.xfer r s i :: l) ∗ sendToks c r s i ∗ owns (c : Thread nD τ) (stageP r i) fullShare (sent X W r s i c)
        ∗ commAny (dn r c) r (slot s) i)
      ⊢ iprop(((due c l ∗ claimOn c (some (sndC r s i))) -∗ WP c (kk ⟨⟩) Q) -∗ WP c (send c r s i >>= kk) Q) :=
  wp_sendTo X W K c r s i l kk _ (dst_eq c r s i)

/-- A signal that pays cell `p` of the neighbour, the next of the payments still to make. -/
theorem wp_pay {Q : α → sProp 𝕄} (p : Pay) (sem : Sem sig) (hsem : csem p.cl = .reg sem) (hamt : amt p.cl = 1) (b : Bool)
    (hd : b ∈ (Rd X W).duties (kcell (p.dev c, p.cl)) 0) (d : Dev nD) (hdev : d = p.dev c) (l : List Pay) (kk : PUnit → PR F α) :
    iprop(ctx X W K ∗ due c (p :: l) ∗ tok (p.dev c) p.cl b ∗ payOf X W (p.dev c) p.cl b)
      ⊢ iprop((due c l -∗ WP c (kk ⟨⟩) Q) -∗ WP c (semSignalWord d sem 1#32 >>= kk) Q) := by
  subst hdev
  unfold due
  simp only [semSignalWord, Prog.lift, Prog.bind_op, Prog.bind_ret]
  iintro ⟨#Hctx, ⟨%Ws, HO⟩, Ht, Hpay⟩ Hk
  have hcell : kcell (p.dev c, p.cl) = ((p.dev c : Thread nD τ), .reg sem) := by unfold kcell; rw [hsem]
  iapply (Rounds.wp_signal 𝒱₀ ER (Rd X W) (c : Thread nD τ) none (dst := (p.dev c : Thread nD τ)) (κ := K (p.dev c, p.cl)) (r := 0)
      (d := b) (k' := 1) (by rw [← hcell]; exact hd) (by rw [← hcell]; exact (amount_cell X W _ _ b).trans hamt) () (owed c l)
      (by rw [← hcell, ← hamt])) $$ [HO Ht Hpay]
  · rw [← hcell]
    isplitr; · iapply (inv_at X W K (p.dev c, p.cl)); iexact Hctx
    isplitl [HO]; · iexact HO
    isplitl [Ht]; · iexact Ht
    isplitl [Hpay]; · iapply (Entails.of_eq (payload_cell X W (p.dev c) p.cl b).symm); iexact Hpay
    iapply (reached_at X W K (p.dev c, p.cl)); iexact Hctx
  iintro HO
  iapply Hk
  iexists _; iexact HO

/-- The barrier: the own landing buffers given to the neighbours that send into them, theirs taken. -/
theorem wp_barrier {Q : α → sProp 𝕄} (l : List Pay) (h : ∀ p ∈ l, 1 < lvl p.cl) (kk : PUnit → PR F α) :
    iprop(ctx X W K ∗ due c (.bar true :: .bar false :: l) ∗ tok (up true c) none true ∗ tok (up false c) none false
        ∗ (slot0 c true ∗ slot1 c true) ∗ (slot0 c false ∗ slot1 c false)
        ∗ cred (tallyAt (kcell (c, none)) () 2) ∗ pos c none 0)
      ⊢ iprop(((due c l ∗ pos c none 1 ∗ (slot0 (dn false c) false ∗ slot1 (dn false c) false) ∗ (slot0 (dn true c) true ∗ slot1 (dn true c) true)) -∗ WP c (kk ⟨⟩) Q)
          -∗ WP c (barrier c >>= kk) Q) := by
  unfold barrier
  simp only [Prog.bind_assoc]
  iintro ⟨#Hctx, HO, Ht1, Ht2, Hs1, Hs2, Hc, Hat⟩ Hk
  iapply (wp_pay X W K c (.bar true) barA.sem rfl rfl true (by show _ ∈ (Rd X W).duties ((up true c : Thread nD τ), .reg barA.sem) 0; rw [duties_bar]; exact Finset.mem_univ _) _ (dev1_eq c)) $$ [HO Ht1 Hs1]
  · isplitr; · iexact Hctx
    isplitl [HO]; · iexact HO
    isplitl [Ht1]; · iexact Ht1
    iapply (Entails.of_eq (payOf_bar X W c true).symm)
    iexact Hs1
  iintro HO
  iapply (wp_pay X W K c (.bar false) barA.sem rfl rfl false (by show _ ∈ (Rd X W).duties ((up false c : Thread nD τ), .reg barA.sem) 0; rw [duties_bar]; exact Finset.mem_univ _) _ (dev2_eq c)) $$ [HO Ht2 Hs2]
  · isplitr; · iexact Hctx
    isplitl [HO]; · iexact HO
    isplitl [Ht2]; · iexact Ht2
    iapply (Entails.of_eq (payOf_bar X W c false).symm)
    iexact Hs2
  iintro HO
  simp only [semWaitWord, Prog.lift, Prog.bind_op, Prog.bind_ret]
  unfold due
  icases HO with ⟨%Ws, HO⟩
  iapply (Rounds.wp_wait_rest_token 𝒱₀ ER (Rd X W) (c : Thread nD τ) none (κ := K (c, none))
      (wpE_semWait_eq 𝒱₀ (c : Thread nD τ) none Set.univ) (Set.mem_univ _) () (O := owed c l) (W := Ws) (R := 0) (m := 0) (T := ∅)
      (by rw [expect_bar]; decide)) $$ [Hc HO Hat]
  · isplitr; · iapply (inv_at X W K (c, none)); iexact Hctx
    isplitl [Hc]; · iexact Hc
    isplitl [HO]; · iexact HO
    isplitr
    · iapply (mayWait_cl c none l h); iapply (lev_at X W K); iexact Hctx
    iexact Hat
  iintro ⟨HO, Hat, -, Hpay⟩
  ihave Hp3 := (Entails.of_eq (rest_bar' X W c)) $$ Hpay
  iapply Hk
  isplitl [HO]; · iexists _; iexact HO
  isplitl [Hat]; · iexact Hat
  iexact Hp3

end

end Cert.RingProof

end
-- ==== Proof.Body.lean ====
module

public import proofs.«01_k».proof.Proof.Steps

@[expose] public section

noncomputable section

/-! # The body, step by step -/

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x1024 .f32) (W : Dev nD → Vec F S1024x2048 .f32) (K : Dev nD × Cl → ℕ)

/-- A family over the four subtiles, one by one. -/
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

theorem slot0_eq (c : Dev nD) (r : Bool) :
    slot0 (F := F) c r = iprop(commAny c r 0 0 ∗ commAny c r 0 1 ∗ commAny c r 0 2 ∗ commAny c r 0 3) := bigSep_four _

/-! ## The credit between two hops -/

/-- What a ring carries along hop 0: the right to give the credit, and slot 0 of the own landing buffer as it becomes free. -/
def carryA (c : Dev nD) (r : Bool) : ℕ → sProp 𝕄
  | 0 => tok (up r c) (some (crdC r)) false
  | 1 => iprop(tok (up r c) (some (crdC r)) false ∗ commAny c r 0 0)
  | 2 => iprop(tok (up r c) (some (crdC r)) false ∗ commAny c r 0 0 ∗ commAny c r 0 1)
  | 3 => iprop(tok (up r c) (some (crdC r)) false ∗ commAny c r 0 0 ∗ commAny c r 0 1 ∗ commAny c r 0 2)
  | _ => iprop(emp)
/-- What it carries along hop 1: the claim on the credit, then the neighbour's slot 0 as it is used up. -/
def carryB (c : Dev nD) (r : Bool) : ℕ → sProp 𝕄
  | 0 => iprop(pos c (some (crdC r)) 0 ∗ claimOn c (some (crdC r)))
  | 1 => iprop(pos c (some (crdC r)) 1 ∗ commAny (dn r c) r 0 1 ∗ commAny (dn r c) r 0 2 ∗ commAny (dn r c) r 0 3)
  | 2 => iprop(pos c (some (crdC r)) 1 ∗ commAny (dn r c) r 0 2 ∗ commAny (dn r c) r 0 3)
  | 3 => iprop(pos c (some (crdC r)) 1 ∗ commAny (dn r c) r 0 3)
  | _ => pos c (some (crdC r)) 1
def carry (c : Dev nD) (s : Fin 2) (r : Bool) (n : ℕ) : sProp 𝕄 := match s with | 0 => carryA c r n | 1 => carryB c r n

/-- The piece a step of hop 0 sends into; and the landed piece a step of hop 1 keeps. -/
def dstIn (c : Dev nD) (r : Bool) (s : Fin 2) (i : Fin 4) : sProp 𝕄 := match s with | 0 => commAny (dn r c) r 1 i | 1 => iprop(emp)
def keep (c : Dev nD) (r : Bool) (s : Fin 2) (i : Fin 4) : sProp 𝕄 := match s with | 0 => iprop(emp) | 1 => commAny c r 1 i

/-- The payments of a step. -/
def pays : Fin 2 → Bool → Fin 4 → List Pay
  | 0, r, 3 => [.crd r, .xfer r 1 3]
  | 0, r, i => [.xfer r 1 i]
  | 1, r, i => [.xfer r 2 i]

section
variable {α : Type} (c : Dev nD)

/-- Giving the credit: slot 0 of the own landing buffer to the neighbour that sends into it. -/
theorem wp_credGive {Q : α → sProp 𝕄} (r : Bool) (l : List Pay) (kk : PUnit → PR F α) :
    iprop(ctx X W K ∗ due c (.crd r :: l) ∗ tok (up r c) (some (crdC r)) false ∗ slot0 c r)
      ⊢ iprop((due c l -∗ WP c (kk ⟨⟩) Q) -∗ WP c (semSignalWord (credDst c r) (credA r).sem 1#32 >>= kk) Q) := by
  iintro ⟨#Hctx, HO, Ht, Hs⟩
  iapply (wp_pay X W K c (.crd r) (credA r).sem rfl rfl false
    (by show _ ∈ (Rd X W).duties ((up r c : Thread nD τ), osem (crdC r)) 0; rw [duties_own]; exact Finset.mem_singleton_self _) _ (credDst_eq c r))
  isplitr; · iexact Hctx
  isplitl [HO]; · iexact HO
  isplitl [Ht]; · iexact Ht
  iapply (Entails.of_eq (payOf_crd X W c r false).symm)
  iexact Hs

/-- Taking the credit: slot 0 of the neighbour's landing buffer. -/
theorem wp_credTake {Q : α → sProp 𝕄} (r : Bool) (l : List Pay) (h : ∀ p ∈ l, 3 < lvl p.cl) (kk : PUnit → PR F α) :
    iprop(ctx X W K ∗ due c l ∗ claimOn c (some (crdC r)) ∗ pos c (some (crdC r)) 0)
      ⊢ iprop(((due c l ∗ pos c (some (crdC r)) 1 ∗ slot0 (dn r c) r) -∗ WP c (kk ⟨⟩) Q) -∗ WP c (semWaitWord (credA r).sem 1#32 >>= kk) Q) := by
  simp only [semWaitWord, Prog.lift, Prog.bind_op, Prog.bind_ret]
  exact wp_waitCl X W K c (crdC r) l h (fun Q => wpE_semWait_eq (k := 1) 𝒱₀ (c : Thread nD τ) none Set.univ Q) kk

/-- The credit operation of a step. -/
theorem wp_credit {Q : α → sProp 𝕄} (s : Fin 2) (r : Bool) (i : Fin 4) (l : List Pay) (h : ∀ p ∈ pays s r i ++ l, 2 + 2 * s.val < lvl p.cl)
    (kk : PUnit → PR F α) :
    iprop(ctx X W K ∗ due c (pays s r i ++ l) ∗ carry c s r i.val ∗ commAny c r s i ∗ dstIn c r s i)
      ⊢ iprop(((due c (.xfer r (hopS s) i :: l) ∗ carry c s r (i.val + 1) ∗ keep c r s i ∗ commAny (dn r c) r (slot (hopS s)) i) -∗ WP c (kk ⟨⟩) Q)
          -∗ WP c (credit c r s i >>= kk) Q) := by
  match s, i with
  | 0, 0 =>
    show iprop(ctx X W K ∗ due c (.xfer r 1 0 :: l) ∗ carryA c r 0 ∗ commAny c r 0 0 ∗ commAny (dn r c) r 1 0)
      ⊢ iprop(((due c (.xfer r 1 0 :: l) ∗ carryA c r 1 ∗ emp ∗ commAny (dn r c) r 1 0) -∗ WP c (kk ⟨⟩) Q) -∗ WP c (kk ⟨⟩) Q)
    simp only [carryA]
    iintro ⟨#Hctx, HO, Ht, Hc, Hd⟩ Hk
    iapply Hk
    iframe
  | 0, 1 =>
    show iprop(ctx X W K ∗ due c (.xfer r 1 1 :: l) ∗ carryA c r 1 ∗ commAny c r 0 1 ∗ commAny (dn r c) r 1 1)
      ⊢ iprop(((due c (.xfer r 1 1 :: l) ∗ carryA c r 2 ∗ emp ∗ commAny (dn r c) r 1 1) -∗ WP c (kk ⟨⟩) Q) -∗ WP c (kk ⟨⟩) Q)
    simp only [carryA]
    iintro ⟨#Hctx, HO, ⟨Ht, Hc0⟩, Hc, Hd⟩ Hk
    iapply Hk
    iframe
  | 0, 2 =>
    show iprop(ctx X W K ∗ due c (.xfer r 1 2 :: l) ∗ carryA c r 2 ∗ commAny c r 0 2 ∗ commAny (dn r c) r 1 2)
      ⊢ iprop(((due c (.xfer r 1 2 :: l) ∗ carryA c r 3 ∗ emp ∗ commAny (dn r c) r 1 2) -∗ WP c (kk ⟨⟩) Q) -∗ WP c (kk ⟨⟩) Q)
    simp only [carryA]
    iintro ⟨#Hctx, HO, ⟨Ht, Hc0, Hc1⟩, Hc, Hd⟩ Hk
    iapply Hk
    iframe
  | 0, 3 =>
    show iprop(ctx X W K ∗ due c (.crd r :: .xfer r 1 3 :: l) ∗ carryA c r 3 ∗ commAny c r 0 3 ∗ commAny (dn r c) r 1 3)
      ⊢ iprop(((due c (.xfer r 1 3 :: l) ∗ emp ∗ emp ∗ commAny (dn r c) r 1 3) -∗ WP c (kk ⟨⟩) Q)
        -∗ WP c (semSignalWord (credDst c r) (credA r).sem 1#32 >>= kk) Q)
    simp only [carryA]
    iintro ⟨#Hctx, HO, ⟨Ht, Hc0, Hc1, Hc2⟩, Hc, Hd⟩ Hk
    iapply (wp_credGive X W K c r) $$ [HO Ht Hc0 Hc1 Hc2 Hc]
    · rw [slot0_eq]; iframe Hctx; iframe
    iintro HO
    iapply Hk
    iframe
  | 1, 0 =>
    show iprop(ctx X W K ∗ due c (.xfer r 2 0 :: l) ∗ carryB c r 0 ∗ commAny c r 1 0 ∗ emp)
      ⊢ iprop(((due c (.xfer r 2 0 :: l) ∗ carryB c r 1 ∗ commAny c r 1 0 ∗ commAny (dn r c) r 0 0) -∗ WP c (kk ⟨⟩) Q)
        -∗ WP c (semWaitWord (credA r).sem 1#32 >>= kk) Q)
    simp only [carryB]
    iintro ⟨#Hctx, HO, ⟨Hp, Hcl⟩, Hc, -⟩ Hk
    iapply (wp_credTake X W K c r (.xfer r 2 0 :: l) fun p hp => lt_trans (by decide) (h p hp)) $$ [HO Hp Hcl]
    · iframe Hctx; iframe
    rw [slot0_eq]
    iintro ⟨HO, Hp, Hd0, Hd1, Hd2, Hd3⟩
    iapply Hk
    iframe
  | 1, 1 =>
    show iprop(ctx X W K ∗ due c (.xfer r 2 1 :: l) ∗ carryB c r 1 ∗ commAny c r 1 1 ∗ emp)
      ⊢ iprop(((due c (.xfer r 2 1 :: l) ∗ carryB c r 2 ∗ commAny c r 1 1 ∗ commAny (dn r c) r 0 1) -∗ WP c (kk ⟨⟩) Q) -∗ WP c (kk ⟨⟩) Q)
    simp only [carryB]
    iintro ⟨#Hctx, HO, ⟨Hp, Hd1, Hd2, Hd3⟩, Hc, -⟩ Hk
    iapply Hk
    iframe
  | 1, 2 =>
    show iprop(ctx X W K ∗ due c (.xfer r 2 2 :: l) ∗ carryB c r 2 ∗ commAny c r 1 2 ∗ emp)
      ⊢ iprop(((due c (.xfer r 2 2 :: l) ∗ carryB c r 3 ∗ commAny c r 1 2 ∗ commAny (dn r c) r 0 2) -∗ WP c (kk ⟨⟩) Q) -∗ WP c (kk ⟨⟩) Q)
    simp only [carryB]
    iintro ⟨#Hctx, HO, ⟨Hp, Hd2, Hd3⟩, Hc, -⟩ Hk
    iapply Hk
    iframe
  | 1, 3 =>
    show iprop(ctx X W K ∗ due c (.xfer r 2 3 :: l) ∗ carryB c r 3 ∗ commAny c r 1 3 ∗ emp)
      ⊢ iprop(((due c (.xfer r 2 3 :: l) ∗ carryB c r 4 ∗ commAny c r 1 3 ∗ commAny (dn r c) r 0 3) -∗ WP c (kk ⟨⟩) Q) -∗ WP c (kk ⟨⟩) Q)
    simp only [carryB]
    iintro ⟨#Hctx, HO, ⟨Hp, Hd3⟩, Hc, -⟩ Hk
    iapply Hk
    iframe

/-! ## The steps -/

/-- What a step of hop 0 or 1 needs beside the payments and what its ring carries; and what it leaves. -/
def stepPre (s : Fin 2) (p : Bool × Fin 4) : sProp 𝕄 :=
  iprop(claimOn c (some (sndC p.1 (hop s) p.2)) ∗ waitPos c p.1 (hop s) p.2 ∗ sendToks c p.1 (hopS s) p.2 ∗ dstIn c p.1 s p.2)
def stepPost (s : Fin 2) (p : Bool × Fin 4) : sProp 𝕄 :=
  iprop(claimOn c (some (sndC p.1 (hopS s) p.2)) ∗ donePos c p.1 (hop s) p.2 ∗ keep c p.1 s p.2)

theorem slot_hop (s : Fin 2) : slot (hop s) = s := by fin_cases s <;> rfl
theorem hop_val (s : Fin 2) : (hop s).val = s.val := by fin_cases s <;> rfl

/-- A step of hop 0 or 1. -/
theorem wp_step {Q : α → sProp 𝕄} (s : Fin 2) (r : Bool) (i : Fin 4) (l : List Pay) (h : ∀ p ∈ pays s r i ++ l, 2 + 2 * s.val < lvl p.cl)
    (kk : PUnit → PR F α) :
    iprop(ctx X W K ∗ emp ∗ due c (pays s r i ++ l) ∗ carry c s r i.val ∗ stepPre c s (r, i))
      ⊢ iprop(((emp ∗ due c l ∗ carry c s r (i.val + 1) ∗ stepPost c s (r, i)) -∗ WP c (kk ⟨⟩) Q)
          -∗ WP c (step c r s i (prodV X W c r (hop s) i) >>= kk) Q) := by
  unfold step stepPre stepPost
  simp only [Prog.bind_assoc]
  iintro ⟨#Hctx, -, HO, Hca, Hcl, Hw, Ht, Hd⟩ Hk
  iapply (wp_waits X W K c r (hop s) i (pays s r i ++ l) (by rw [hop_val]; exact h)) $$ [HO Hcl Hw]
  · iframe Hctx; iframe
  rw [slot_hop]
  iintro ⟨HO, Hz, Hs, Hc⟩
  iapply (wp_loadComm c r s i) $$ Hc
  iintro Hc
  ihave Hs' := (stageAny_of c r i _) $$ Hs
  iapply (wp_putStage c r i) $$ Hs'
  rw [← sent_hop]
  iintro Hs
  ihave Hc' := (commAny_of c r s i _) $$ Hc
  iapply (wp_credit X W K c s r i l h) $$ [HO Hca Hc' Hd]
  · iframe Hctx; iframe
  iintro ⟨HO, Hca, Hkeep, Hd⟩
  iapply (wp_send X W K c r (hopS s) i l) $$ [HO Ht Hs Hd]
  · iframe Hctx; iframe
  iintro ⟨HO, Hcl⟩
  iapply Hk
  iframe

/-- What the first step of a subtile needs and leaves. -/
def initPre (p : Bool × Fin 4) : sProp 𝕄 := iprop(stageAny c p.1 p.2 ∗ commAny (dn p.1 c) p.1 0 p.2 ∗ sendToks c p.1 0 p.2)
def initPost (p : Bool × Fin 4) : sProp 𝕄 := claimOn c (some (sndC p.1 0 p.2))

/-- The first step of a subtile. -/
theorem wp_initStep {Q : α → sProp 𝕄} (r : Bool) (i : Fin 4) (l : List Pay) (kk : PUnit → PR F α) :
    iprop(ctx X W K ∗ ops c (X c) (W c) ∗ due c (.xfer r 0 i :: l) ∗ emp ∗ initPre c (r, i))
      ⊢ iprop(((ops c (X c) (W c) ∗ due c l ∗ emp ∗ initPost c (r, i)) -∗ WP c (kk ⟨⟩) Q) -∗ WP c (initStep c r i >>= kk) Q) := by
  have hx : ∀ (k : Vec F S256x1024 .f32 → PR F α) (Q : α → sProp 𝕄),
      ops c (X c) (W c) ⊢ iprop((ops c (X c) (W c) -∗ WP c (k (xInit X c r i)) Q) -∗ WP c (loadXInit c r i >>= k) Q) := fun k Q => by
    cases r
    · exact wp_loadX c (X c) (W c) _ _ k
    · exact wp_loadX c (X c) (W c) _ _ k
  unfold initStep initPre initPost
  simp only [Prog.bind_assoc]
  iintro ⟨#Hctx, Hops, HO, -, Hs, Hd, Ht⟩ Hk
  iapply (hx _ _) $$ Hops
  iintro Hops
  iapply (wp_loadW c (X c) (W c) r) $$ Hops
  iintro Hops
  iapply (wp_putStage c r i) $$ Hs
  iintro Hs
  iapply (wp_send X W K c r 0 i l) $$ [HO Ht Hs Hd]
  · iframe Hctx HO Ht Hd
    iexact Hs
  iintro ⟨HO, Hcl⟩
  iapply Hk
  iframe

/-- What a step of the last hop needs and leaves. -/
def lastPre (p : Bool × Fin 4) : sProp 𝕄 := iprop(claimOn c (some (sndC p.1 2 p.2)) ∗ waitPos c p.1 2 p.2 ∗ outAny c p.1 p.2)
def lastPost (p : Bool × Fin 4) : sProp 𝕄 :=
  iprop(donePos c p.1 2 p.2 ∗ stageAny c p.1 p.2 ∗ commAny c p.1 0 p.2 ∗ owns (c : Thread nD τ) (outP p.1 p.2) fullShare (outV X W c p.1 p.2))

/-- A step of the last hop. -/
theorem wp_lastStep {Q : α → sProp 𝕄} (r : Bool) (i : Fin 4) (kk : PUnit → PR F α) :
    iprop(ctx X W K ∗ emp ∗ due c [] ∗ emp ∗ lastPre c (r, i))
      ⊢ iprop(((emp ∗ due c [] ∗ emp ∗ lastPost X W c (r, i)) -∗ WP c (kk ⟨⟩) Q) -∗ WP c (lastStep r i (prodV X W c r 2 i) >>= kk) Q) := by
  unfold lastStep lastPre lastPost
  simp only [Prog.bind_assoc]
  iintro ⟨#Hctx, -, HO, -, Hcl, Hw, Ho⟩ Hk
  iapply (wp_waits X W K c r 2 i [] (fun p hp => absurd hp List.not_mem_nil)) $$ [HO Hcl Hw]
  · iframe Hctx; iframe
  iintro ⟨HO, Hz, Hs, Hc⟩
  iapply (wp_loadComm c r 0 i) $$ Hc
  iintro Hc
  iapply (wp_putOut c r i) $$ Ho
  iintro Ho
  ihave Hs' := (stageAny_of c r i _) $$ Hs
  ihave Hc' := (commAny_of c r 0 i _) $$ Hc
  iapply Hk
  iframe Hs' Hc' HO Hz
  iexact Ho

end

end Cert.RingProof

end
-- ==== Proof.Sweep.lean ====
module

public import proofs.«01_k».proof.Proof.Body

@[expose] public section

noncomputable section

/-! # The whole body -/

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x1024 .f32) (W : Dev nD → Vec F S1024x2048 .f32) (K : Dev nD × Cl → ℕ)

/-- A family over rings and subtiles, ring by ring; and one by one in the order of a sweep. -/
theorem bigSep_rings (Φ : Bool × Fin 4 → sProp 𝕄) :
    bigSep Finset.univ Φ = iprop((bigSep Finset.univ fun i => Φ (true, i)) ∗ bigSep Finset.univ fun i => Φ (false, i)) := by
  rw [bigSep_univ_prod, bigSep_univ_eq_bigSepL [true, false] (by decide) (by decide), bigSepL_cons_cons, bigSepL_singleton]
  rfl
theorem bigSep_sweep (Φ : Bool × Fin 4 → sProp 𝕄) :
    bigSep Finset.univ Φ = iprop(Φ (true, 0) ∗ Φ (false, 0) ∗ Φ (true, 1) ∗ Φ (false, 1) ∗ Φ (true, 2) ∗ Φ (false, 2) ∗ Φ (true, 3) ∗ Φ (false, 3)) := by
  rw [bigSep_univ_eq_bigSepL [(true, 0), (false, 0), (true, 1), (false, 1), (true, 2), (false, 2), (true, 3), (false, 3)] (by decide) (by decide)]
  simp only [bigSepL_cons_cons, bigSepL_singleton]
  rfl

/-- The payments of a sweep before those of `l`. -/
def sweepPays (py : Bool → Fin 4 → List Pay) (l : List Pay) : List Pay :=
  py true 0 ++ (py false 0 ++ (py true 1 ++ (py false 1 ++ (py true 2 ++ (py false 2 ++ (py true 3 ++ (py false 3 ++ l)))))))

section
variable {α : Type} (c : Dev nD)

/-- A sweep, from a rule for its step: what the rings carry and what the steps share passes along, the rest is each step's. -/
theorem wp_sweep {Q : α → sProp 𝕄} (f : Bool → Fin 4 → PR F PUnit) (I : sProp 𝕄) (car : Bool → ℕ → sProp 𝕄) (Pre Post : Bool × Fin 4 → sProp 𝕄)
    (py : Bool → Fin 4 → List Pay) (ok : List Pay → Prop) (hok : ∀ a b, ok (a ++ b) → ok b)
    (hstep : ∀ (r : Bool) (i : Fin 4) (n : ℕ) (l : List Pay), n = i.val → ok (py r i ++ l) → ∀ kk : PUnit → PR F α,
      iprop(ctx X W K ∗ I ∗ due c (py r i ++ l) ∗ car r n ∗ Pre (r, i))
        ⊢ iprop(((I ∗ due c l ∗ car r (n + 1) ∗ Post (r, i)) -∗ WP c (kk ⟨⟩) Q) -∗ WP c (f r i >>= kk) Q))
    (l : List Pay) (h : ok (sweepPays py l)) (kk : PUnit → PR F α) :
    iprop(ctx X W K ∗ I ∗ due c (sweepPays py l) ∗ (car true 0 ∗ car false 0) ∗ bigSep Finset.univ Pre)
      ⊢ iprop(((I ∗ due c l ∗ (car true 4 ∗ car false 4) ∗ bigSep Finset.univ Post) -∗ WP c (kk ⟨⟩) Q) -∗ WP c (sweep f >>= kk) Q) := by
  have hr : ∀ {a b : List Pay}, ok (a ++ b) → ok b := fun h => hok _ _ h
  unfold sweep
  unfold sweepPays at h ⊢
  rw [bigSep_sweep, bigSep_sweep]
  simp only [Prog.bind_assoc]
  iintro ⟨#Hctx, HI, HO, ⟨Ht, Hf⟩, H0, H1, H2, H3, H4, H5, H6, H7⟩ Hk
  iapply (hstep true 0 0 _ rfl h) $$ [HI HO Ht H0]
  · iframe Hctx HI HO; isplitl [Ht] <;> iassumption
  iintro ⟨HI, HO, Ht, H0⟩
  iapply (hstep false 0 0 _ rfl (hr h)) $$ [HI HO Hf H1]
  · iframe Hctx HI HO; isplitl [Hf] <;> iassumption
  iintro ⟨HI, HO, Hf, H1⟩
  iapply (hstep true 1 1 _ rfl (hr (hr h))) $$ [HI HO Ht H2]
  · iframe Hctx HI HO; isplitl [Ht] <;> iassumption
  iintro ⟨HI, HO, Ht, H2⟩
  iapply (hstep false 1 1 _ rfl (hr (hr (hr h)))) $$ [HI HO Hf H3]
  · iframe Hctx HI HO; isplitl [Hf] <;> iassumption
  iintro ⟨HI, HO, Hf, H3⟩
  iapply (hstep true 2 2 _ rfl (hr (hr (hr (hr h))))) $$ [HI HO Ht H4]
  · iframe Hctx HI HO; isplitl [Ht] <;> iassumption
  iintro ⟨HI, HO, Ht, H4⟩
  iapply (hstep false 2 2 _ rfl (hr (hr (hr (hr (hr h)))))) $$ [HI HO Hf H5]
  · iframe Hctx HI HO; isplitl [Hf] <;> iassumption
  iintro ⟨HI, HO, Hf, H5⟩
  iapply (hstep true 3 3 _ rfl (hr (hr (hr (hr (hr (hr h))))))) $$ [HI HO Ht H6]
  · iframe Hctx HI HO; isplitl [Ht] <;> iassumption
  iintro ⟨HI, HO, Ht, H6⟩
  iapply (hstep false 3 3 _ rfl (hr (hr (hr (hr (hr (hr (hr h)))))))) $$ [HI HO Hf H7]
  · iframe Hctx HI HO; isplitl [Hf] <;> iassumption
  iintro ⟨HI, HO, Hf, H7⟩
  iapply Hk
  iframe HI HO H0 H1 H2 H3 H4 H5 H6 H7
  isplitl [Ht] <;> iassumption

/-- The loads of an even hop's operands. -/
theorem wp_loadsEven {Q : α → sProp 𝕄} (s : Fin 3) (k : (Fin 4 → Vec F S256x1024 .f32 × Vec F S1024x2048 .f32) → PR F α) :
    ops c (X c) (W c)
      ⊢ iprop((ops c (X c) (W c) -∗ WP c (k fun i => (xHop X c s i, wFull (W c))) Q) -∗ WP c (loadsEven c s >>= k) Q) := by
  have hx : ∀ (i : Fin 4) (k : Vec F S256x1024 .f32 → PR F α),
      ops c (X c) (W c) ⊢ iprop((ops c (X c) (W c) -∗ WP c (k (xHop X c s i)) Q) -∗ WP c (loadXHop c s i >>= k) Q) := fun i k =>
    wp_loadX c (X c) (W c) _ _ k
  have e : (fun | 0 => (xHop X c s 0, wFull (W c)) | 1 => (xHop X c s 1, wFull (W c)) | 2 => (xHop X c s 2, wFull (W c)) | 3 => (xHop X c s 3, wFull (W c)) :
      Fin 4 → Vec F S256x1024 .f32 × Vec F S1024x2048 .f32) = fun i => (xHop X c s i, wFull (W c)) := funext fun i => by fin_cases i <;> rfl
  rw [← e]
  unfold loadsEven
  simp only [Prog.bind_assoc, Prog.pure_eq_ret, Prog.bind_ret]
  iintro H Hk
  iapply (hx 0 _) $$ H
  iintro H
  iapply (wp_loadWAll c (X c) (W c)) $$ H
  iintro H
  iapply (hx 1 _) $$ H
  iintro H
  iapply (wp_loadWAll c (X c) (W c)) $$ H
  iintro H
  iapply (hx 2 _) $$ H
  iintro H
  iapply (wp_loadWAll c (X c) (W c)) $$ H
  iintro H
  iapply (hx 3 _) $$ H
  iintro H
  iapply (wp_loadWAll c (X c) (W c)) $$ H
  iexact Hk

/-- The loads of the odd hop's operands, and its local products. -/
theorem wp_loadsOdd {Q : α → sProp 𝕄} (k : (Bool → Fin 4 → FVec F S256x1024 .f32) → PR F α) :
    ops c (X c) (W c)
      ⊢ iprop((ops c (X c) (W c) -∗ WP c (k fun r i => prodV X W c r 1 i) Q) -∗ WP c (loadsOdd c >>= k) Q) := by
  have hx : ∀ (r : Bool) (i : Fin 4) (k : FVec F S256x1024 .f32 → PR F α),
      ops c (X c) (W c) ⊢ iprop((ops c (X c) (W c) -∗ WP c (k (prodV X W c r 1 i)) Q) -∗ WP c (loadOdd c r i >>= k) Q) := fun r i k => by
    have hl : ∀ (k : Vec F S256x1024 .f32 → PR F α),
        ops c (X c) (W c) ⊢ iprop((ops c (X c) (W c) -∗ WP c (k (xOdd X c r i)) Q) -∗ WP c (loadXOdd c r i >>= k) Q) := fun k => by
      cases r
      · exact wp_loadX c (X c) (W c) _ _ k
      · exact wp_loadX c (X c) (W c) _ _ k
    unfold loadOdd
    simp only [Prog.bind_assoc, Prog.pure_eq_ret, Prog.bind_ret]
    iintro H Hk
    iapply (hl _) $$ H
    iintro H
    iapply (wp_loadW c (X c) (W c) r) $$ H
    iexact Hk
  have e : (fun
      | true, 0 => prodV X W c true 1 0 | true, 1 => prodV X W c true 1 1 | true, 2 => prodV X W c true 1 2 | true, 3 => prodV X W c true 1 3
      | false, 0 => prodV X W c false 1 0 | false, 1 => prodV X W c false 1 1 | false, 2 => prodV X W c false 1 2 | false, 3 => prodV X W c false 1 3 :
      Bool → Fin 4 → FVec F S256x1024 .f32) = fun r i => prodV X W c r 1 i := funext fun r => funext fun i => by cases r <;> fin_cases i <;> rfl
  rw [← e]
  unfold loadsOdd
  simp only [Prog.bind_assoc, Prog.pure_eq_ret, Prog.bind_ret]
  iintro H Hk
  iapply (hx true 0 _) $$ H
  iintro H
  iapply (hx false 0 _) $$ H
  iintro H
  iapply (hx true 1 _) $$ H
  iintro H
  iapply (hx false 1 _) $$ H
  iintro H
  iapply (hx true 2 _) $$ H
  iintro H
  iapply (hx false 2 _) $$ H
  iintro H
  iapply (hx true 3 _) $$ H
  iintro H
  iapply (hx false 3 _) $$ H
  iexact Hk

/-! ## The body -/

/-- All the payments a device makes, in order. -/
def pays2 : List Pay := sweepPays (pays 1) []
def pays1 : List Pay := sweepPays (pays 0) pays2
def pays0 : List Pay := sweepPays (fun r i => [.xfer r 0 i]) pays1
def allPays : List Pay := .bar true :: .bar false :: pays0

/-- What a device brings to the body beside the operands, -/
def bodyIn (c : Dev nD) : sProp 𝕄 :=
  iprop(due c allPays ∗ tok (up true c) none true ∗ tok (up false c) none false
    ∗ (slot0 c true ∗ slot1 c true) ∗ (slot0 c false ∗ slot1 c false)
    ∗ cred (tallyAt (kcell (c, none)) () 2) ∗ pos c none 0
    ∗ (bigSep Finset.univ fun p : Bool × Fin 4 => stageAny c p.1 p.2) ∗ (bigSep Finset.univ fun p : Bool × Fin 4 => outAny c p.1 p.2)
    ∗ (bigSep Finset.univ fun p : Bool × Fin 4 => sendToks c p.1 0 p.2) ∗ (bigSep Finset.univ fun p : Bool × Fin 4 => sendToks c p.1 1 p.2)
    ∗ (bigSep Finset.univ fun p : Bool × Fin 4 => sendToks c p.1 2 p.2)
    ∗ (bigSep Finset.univ fun p : Bool × Fin 4 => waitPos c p.1 0 p.2) ∗ (bigSep Finset.univ fun p : Bool × Fin 4 => waitPos c p.1 1 p.2)
    ∗ (bigSep Finset.univ fun p : Bool × Fin 4 => waitPos c p.1 2 p.2)
    ∗ (carryA c true 0 ∗ carryA c false 0) ∗ (carryB c true 0 ∗ carryB c false 0))

/-- and what it has at the end. -/
def bodyOut (c : Dev nD) : sProp 𝕄 :=
  iprop(due c [] ∗ pos c none 1
    ∗ (bigSep Finset.univ fun p : Bool × Fin 4 => stageAny c p.1 p.2) ∗ (bigSep Finset.univ fun p : Bool × Fin 4 => commAny c p.1 0 p.2)
    ∗ (bigSep Finset.univ fun p : Bool × Fin 4 => commAny c p.1 1 p.2)
    ∗ (bigSep Finset.univ fun p : Bool × Fin 4 => owns (c : Thread nD τ) (outP p.1 p.2) fullShare (outV X W c p.1 p.2))
    ∗ (bigSep Finset.univ fun p : Bool × Fin 4 => donePos c p.1 0 p.2) ∗ (bigSep Finset.univ fun p : Bool × Fin 4 => donePos c p.1 1 p.2)
    ∗ (bigSep Finset.univ fun p : Bool × Fin 4 => donePos c p.1 2 p.2)
    ∗ (pos c (some (crdC true)) 1 ∗ pos c (some (crdC false)) 1))

/-- The sweep of the first steps; of hop 0 or 1; of the last hop. -/
theorem wp_sweepInit {Q : α → sProp 𝕄} (l : List Pay) (kk : PUnit → PR F α) :
    iprop(ctx X W K ∗ ops c (X c) (W c) ∗ due c (sweepPays (fun r i => [.xfer r 0 i]) l) ∗ (emp ∗ emp) ∗ bigSep Finset.univ (initPre c))
      ⊢ iprop(((ops c (X c) (W c) ∗ due c l ∗ (emp ∗ emp) ∗ bigSep Finset.univ (initPost (F := F) c)) -∗ WP c (kk ⟨⟩) Q)
          -∗ WP c (sweep (fun r i => initStep c r i) >>= kk) Q) := by
  refine wp_sweep X W K c (fun r i => initStep c r i) (ops c (X c) (W c)) (fun _ _ => iprop(emp)) (initPre c) (initPost c) (fun r i => [.xfer r 0 i])
    (fun _ => True) (fun _ _ h => h) (fun r i n l hn h kk => ?_) l trivial kk
  exact wp_initStep X W K c r i l kk

theorem wp_sweepStep {Q : α → sProp 𝕄} (s : Fin 2) (l : List Pay) (h : ∀ p ∈ sweepPays (pays s) l, 2 + 2 * s.val < lvl p.cl) (kk : PUnit → PR F α) :
    iprop(ctx X W K ∗ emp ∗ due c (sweepPays (pays s) l) ∗ (carry c s true 0 ∗ carry c s false 0) ∗ bigSep Finset.univ (stepPre c s))
      ⊢ iprop(((emp ∗ due c l ∗ (carry c s true 4 ∗ carry c s false 4) ∗ bigSep Finset.univ (stepPost (F := F) c s)) -∗ WP c (kk ⟨⟩) Q)
          -∗ WP c (sweep (fun r i => step c r s i (prodV X W c r (hop s) i)) >>= kk) Q) := by
  refine wp_sweep X W K c (fun r i => step c r s i (prodV X W c r (hop s) i)) iprop(emp) (carry c s) (stepPre c s) (stepPost c s) (pays s) (fun l => ∀ p ∈ l, 2 + 2 * s.val < lvl p.cl)
    (fun a b h p hp => h p (List.mem_append_right _ hp)) (fun r i n l hn h kk => ?_) l h kk
  subst hn
  exact wp_step X W K c s r i l h kk

theorem wp_sweepLast {Q : α → sProp 𝕄} (kk : PUnit → PR F α) :
    iprop(ctx X W K ∗ emp ∗ due c [] ∗ (emp ∗ emp) ∗ bigSep Finset.univ (lastPre c))
      ⊢ iprop(((emp ∗ due c [] ∗ (emp ∗ emp) ∗ bigSep Finset.univ (lastPost X W c)) -∗ WP c (kk ⟨⟩) Q)
          -∗ WP c (sweep (fun r i => lastStep r i (prodV X W c r 2 i)) >>= kk) Q) := by
  refine wp_sweep X W K c (fun r i => lastStep r i (prodV X W c r 2 i)) iprop(emp) (fun _ _ => iprop(emp)) (lastPre c) (lastPost X W c) (fun _ _ => []) (fun l => l = [])
    (fun a b h => (List.append_eq_nil_iff.mp h).2) (fun r i n l hn h kk => ?_) [] rfl kk
  obtain rfl : l = [] := h
  exact wp_lastStep X W K c r i kk

theorem initPre_eq : bigSep Finset.univ (initPre (F := F) c)
    = iprop((bigSep Finset.univ fun p : Bool × Fin 4 => stageAny c p.1 p.2) ∗ (slot0 (dn true c) true ∗ slot0 (dn false c) false)
        ∗ bigSep Finset.univ fun p : Bool × Fin 4 => sendToks c p.1 0 p.2) := by
  unfold initPre
  rw [bigSep_sep', bigSep_sep', bigSep_rings (fun p : Bool × Fin 4 => commAny (dn p.1 c) p.1 0 p.2)]
  rfl
theorem step0Pre_eq : bigSep Finset.univ (stepPre (F := F) c 0)
    = iprop((bigSep Finset.univ fun p : Bool × Fin 4 => claimOn c (some (sndC p.1 0 p.2))) ∗ (bigSep Finset.univ fun p : Bool × Fin 4 => waitPos c p.1 0 p.2)
        ∗ (bigSep Finset.univ fun p : Bool × Fin 4 => sendToks c p.1 1 p.2) ∗ (slot1 (dn true c) true ∗ slot1 (dn false c) false)) := by
  unfold stepPre
  rw [bigSep_sep', bigSep_sep', bigSep_sep', bigSep_rings (fun p : Bool × Fin 4 => dstIn c p.1 0 p.2)]
  rfl
theorem step1Pre_eq : bigSep Finset.univ (stepPre (F := F) c 1)
    = iprop((bigSep Finset.univ fun p : Bool × Fin 4 => claimOn c (some (sndC p.1 1 p.2))) ∗ (bigSep Finset.univ fun p : Bool × Fin 4 => waitPos c p.1 1 p.2)
        ∗ (bigSep Finset.univ fun p : Bool × Fin 4 => sendToks c p.1 2 p.2) ∗ bigSep Finset.univ fun p : Bool × Fin 4 => iprop(emp)) := by
  unfold stepPre
  rw [bigSep_sep', bigSep_sep', bigSep_sep']
  rfl
theorem step0Post_eq : bigSep Finset.univ (stepPost (F := F) c 0)
    = iprop((bigSep Finset.univ fun p : Bool × Fin 4 => claimOn c (some (sndC p.1 1 p.2))) ∗ (bigSep Finset.univ fun p : Bool × Fin 4 => donePos c p.1 0 p.2)
        ∗ bigSep Finset.univ fun p : Bool × Fin 4 => iprop(emp)) := by
  unfold stepPost
  rw [bigSep_sep', bigSep_sep']
  rfl
theorem step1Post_eq : bigSep Finset.univ (stepPost (F := F) c 1)
    = iprop((bigSep Finset.univ fun p : Bool × Fin 4 => claimOn c (some (sndC p.1 2 p.2))) ∗ (bigSep Finset.univ fun p : Bool × Fin 4 => donePos c p.1 1 p.2)
        ∗ bigSep Finset.univ fun p : Bool × Fin 4 => commAny c p.1 1 p.2) := by
  unfold stepPost
  rw [bigSep_sep', bigSep_sep']
  rfl
theorem lastPre_eq : bigSep Finset.univ (lastPre (F := F) c)
    = iprop((bigSep Finset.univ fun p : Bool × Fin 4 => claimOn c (some (sndC p.1 2 p.2))) ∗ (bigSep Finset.univ fun p : Bool × Fin 4 => waitPos c p.1 2 p.2)
        ∗ bigSep Finset.univ fun p : Bool × Fin 4 => outAny c p.1 p.2) := by
  unfold lastPre
  rw [bigSep_sep', bigSep_sep']
theorem lastPost_eq : bigSep Finset.univ (lastPost X W c)
    = iprop((bigSep Finset.univ fun p : Bool × Fin 4 => donePos c p.1 2 p.2) ∗ (bigSep Finset.univ fun p : Bool × Fin 4 => stageAny c p.1 p.2)
        ∗ (bigSep Finset.univ fun p : Bool × Fin 4 => commAny c p.1 0 p.2)
        ∗ bigSep Finset.univ fun p : Bool × Fin 4 => owns (c : Thread nD τ) (outP p.1 p.2) fullShare (outV X W c p.1 p.2)) := by
  unfold lastPost
  rw [bigSep_sep', bigSep_sep', bigSep_sep']

theorem wp_body (Q : PUnit → sProp 𝕄) :
    iprop(ctx X W K ∗ ops c (X c) (W c) ∗ bodyIn c) ⊢ iprop(((ops c (X c) (W c) ∗ bodyOut X W c) -∗ Q ⟨⟩) -∗ WP c body Q) := by
  have s0 : ∀ kk : PUnit → PR F PUnit, _ := fun kk => wp_sweepStep X W K c (Q := Q) 0 pays2 (by decide) kk
  have s1 : ∀ kk : PUnit → PR F PUnit, _ := fun kk => wp_sweepStep X W K c (Q := Q) 1 [] (by decide) kk
  have s2 : ∀ kk : PUnit → PR F PUnit, _ := fun kk => wp_sweepLast X W K c (Q := Q) kk
  rw [step0Pre_eq, step0Post_eq] at s0
  rw [step1Pre_eq, step1Post_eq] at s1
  rw [lastPre_eq, lastPost_eq] at s2
  have si : ∀ kk : PUnit → PR F PUnit, _ := fun kk => wp_sweepInit X W K c (Q := Q) pays1 kk
  rw [initPre_eq] at si
  have he : (iprop(emp) : sProp 𝕄) ⊢ bigSep Finset.univ fun _ : Bool × Fin 4 => iprop(emp) := Entails.of_eq (bigSep_emp_const _).symm
  have hlast : ∀ f : Bool → Fin 4 → PR F PUnit, sweep f = (sweep f >>= fun _ => (.ret ⟨⟩ : PR F PUnit)) := fun f => (Prog.bind_pure _).symm
  unfold body bodyIn bodyOut
  simp only [Prog.lift, Prog.bind_op, Prog.bind_ret, wp_deviceId]
  iintro ⟨#Hctx, Hops, HO, Hb1, Hb2, Hs1, Hs2, Hc, Hp, Hst, Hout, Ht0, Ht1, Ht2, Hw0, Hw1, Hw2, Hca, Hcb⟩ Hk
  iapply (wp_barrier X W K c pays0 (by decide)) $$ [HO Hb1 Hb2 Hs1 Hs2 Hc Hp]
  · iframe Hctx HO Hb1 Hb2 Hc Hp
    isplitl [Hs1] <;> iassumption
  iintro ⟨HO, Hp, ⟨Hf0, Hf1⟩, Ht00, Ht11⟩
  iapply (si _) $$ [Hops HO Hst Hf0 Ht00 Ht0]
  · iframe Hctx Hops HO Hst Ht00 Hf0 Ht0
    isplitl [] <;> iempintro
  iintro ⟨Hops, HO, -, Hcl⟩
  iapply (wp_loadsEven X W c 0) $$ Hops
  iintro Hops
  iapply (s0 _) $$ [HO Hca Hcl Hw0 Ht1 Hf1 Ht11]
  · iframe Hctx HO Hw0 Ht1 Hf1 Ht11
    isplitl [Hca]; · iexact Hca
    iexact Hcl
  iintro ⟨-, HO, -, Hcl, Hd0, -⟩
  iapply (wp_loadsOdd X W c) $$ Hops
  iintro Hops
  iapply (s1 _) $$ [HO Hcb Hcl Hw1 Ht2]
  · iframe Hctx HO Hw1 Ht2 Hcl
    isplitl [Hcb]; · iexact Hcb
    iapply he; iempintro
  iintro ⟨-, HO, Hcr, Hcl, Hd1, Hcm⟩
  iapply (wp_loadsEven X W c 2) $$ Hops
  iintro Hops
  rw [hlast]
  iapply (s2 _) $$ [HO Hcl Hw2 Hout]
  · iframe Hctx HO Hw2 Hcl Hout
    isplitl [] <;> iempintro
  iintro ⟨-, HO, -, Hd2, Hst, Hcm0, Hout⟩
  simp only [wp_ret]
  imodintro
  iapply Hk
  iframe Hops HO Hp Hst Hcm0 Hcm Hout Hd0 Hd1 Hd2
  iexact Hcr

end

end Cert.RingProof

end
-- ==== Proof.Launch.lean ====
module

public import proofs.«01_k».proof.Proof.Sweep
public import proofs.«01_k».proof.Proof.Gen.KernelIdeal.Launch

@[expose] public section

noncomputable section

/-! # What each device starts from: tokens, positions and credits, dealt out at the launch -/

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x1024 .f32) (W : Dev nD → Vec F S1024x2048 .f32)

/-! ## Sums over the cells -/

/-- A family over all semaphores is the barrier's member and the own ones. -/
theorem bigSep_cl (Φ : Cl → sProp 𝕄) : bigSep Finset.univ Φ = iprop(Φ none ∗ bigSep Finset.univ fun k : Own => Φ (some k)) := by
  rw [bigSep_univ_equiv (Equiv.optionEquivSumPUnit.{0, 0} Own).symm Φ, bigSep_univ_sum, bigSep_univ_of_subsingleton PUnit.unit]
  exact BI.Entails.antisymm BI.sep_comm BI.sep_comm

/-- A family over rings, subtiles and hops, hop by hop. -/
theorem bigSep_hops (Φ : J → sProp 𝕄) :
    bigSep Finset.univ Φ = iprop((bigSep Finset.univ fun p : Bool × Fin 4 => Φ (p, 0)) ∗ (bigSep Finset.univ fun p : Bool × Fin 4 => Φ (p, 1))
      ∗ bigSep Finset.univ fun p : Bool × Fin 4 => Φ (p, 2)) := by
  rw [bigSep_univ_prod, ← bigSep_sep', ← bigSep_sep']
  exact bigSep_congr fun p _ => bigSep_univ_eq_bigSepL [0, 1, 2] (by decide) (by decide) _

theorem bigSep_both (Φ : Bool → sProp 𝕄) : bigSep Finset.univ Φ = iprop(Φ true ∗ Φ false) :=
  bigSep_univ_eq_bigSepL [true, false] (by decide) (by decide) _

/-- A family over all own semaphores, by kind and hop. -/
theorem bigSep_own (Φ : Own → sProp 𝕄) :
    bigSep Finset.univ Φ = iprop(((bigSep Finset.univ fun j : J => Φ (.inl (.inl j))) ∗ bigSep Finset.univ fun j : J => Φ (.inl (.inr j)))
      ∗ Φ (crdC true) ∗ Φ (crdC false)) := by
  rw [bigSep_univ_sum, bigSep_univ_sum, bigSep_both]
  rfl

/-! ## The tokens -/

/-- The devices one step along a ring. -/
def along (r : Bool) : Dev nD ≃ Dev nD := ⟨dn r, up r, up_dn r, dn_up r⟩

/-- A family over devices and members may be re-indexed, member by member, along any permutation of the devices. -/
theorem bigSep_along' {I : Type} [Fintype I] (e : I → (Dev nD ≃ Dev nD)) (Φ : Dev nD → I → sProp 𝕄) :
    (bigSep Finset.univ fun c => bigSep Finset.univ fun i => Φ c i) = bigSep Finset.univ fun c => bigSep Finset.univ fun i => Φ (e i c) i := by
  rw [bigSep_univ_comm, bigSep_congr fun i _ => bigSep_univ_equiv (e i) fun c => Φ c i, bigSep_univ_comm]

/-- The tokens of a device's own cells: two for the barrier, one for each other. -/
def tokOf (ct : Dev nD × (Bool ⊕ Own)) : GSem nD τ sig × ℕ × Bool :=
  match ct.2 with
  | .inl b => (kcell (ct.1, none), 0, b)
  | .inr k => (kcell (ct.1, some k), 0, false)

theorem tokOf_injective : Function.Injective tokOf := by
  rintro ⟨c, b | k⟩ ⟨c', b' | k'⟩ h
  · obtain ⟨h1, h2⟩ := Prod.mk.inj h
    have e := kcell_injective h1
    exact Prod.ext (Prod.mk.inj e).1 (congrArg Sum.inl (Prod.mk.inj h2).2)
  · exact absurd (Prod.mk.inj (kcell_injective (Prod.mk.inj h).1)).2 nofun
  · exact absurd (Prod.mk.inj (kcell_injective (Prod.mk.inj h).1)).2 nofun
  · have e := Prod.mk.inj (kcell_injective (Prod.mk.inj h).1)
    exact Prod.ext e.1 (congrArg Sum.inr (Option.some.inj e.2))

def ringCells : Finset (GSem nD τ sig) := Finset.univ.map ⟨kcell, kcell_injective⟩
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of device `c`'s own cells. -/
def toks (c : Dev nD) : sProp 𝕄 :=
  iprop((bigSep Finset.univ fun b : Bool => tok c none b)
    ∗ ((bigSep Finset.univ fun j : J => tok c (some (sndC j.1.1 j.2 j.1.2)) false) ∗ bigSep Finset.univ fun j : J => tok c (some (rcvC j.1.1 j.2 j.1.2)) false)
    ∗ bigSep Finset.univ fun r : Bool => tok c (some (crdC r)) false)

/-- The tokens that device `c` pays with. -/
def payToks (c : Dev nD) : sProp 𝕄 :=
  iprop((bigSep Finset.univ fun b : Bool => tok (up b c) none b)
    ∗ ((bigSep Finset.univ fun j : J => tok c (some (sndC j.1.1 j.2 j.1.2)) false) ∗ bigSep Finset.univ fun j : J => tok (dn j.1.1 c) (some (rcvC j.1.1 j.2 j.1.2)) false)
    ∗ bigSep Finset.univ fun r : Bool => tok (up r c) (some (crdC r)) false)

/-- The tokens dealt around the rings. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_along' (fun b : Bool => (along b).symm) (fun c b => (tok c none b : sProp 𝕄)),
    bigSep_along' (fun j : J => along j.1.1) (fun c j => (tok c (some (rcvC j.1.1 j.2 j.1.2)) false : sProp 𝕄)),
    bigSep_along' (fun r : Bool => (along r).symm) (fun c r => (tok c (some (crdC r)) false : sProp 𝕄))]
  exact Entails.of_eq rfl

/-! ## The ghost state -/

def G (c : Dev nD) : sProp 𝕄 :=
  iprop((bigSep Finset.univ fun k : Cl => roundState ER (Rd X W) (kcell (c, k)) 0)
    ∗ (bigSep Finset.univ fun k : Cl => iprop(pos c k 0 ∗ reached ER (kcell (c, k)) 0)) ∗ toks c)

theorem fund_ring : BI.own (ER (initOf ringCells ringToks)) ⊢ (|==> bigSep Finset.univ (G X W) : sProp 𝕄) := by
  have hX (Φ : GSem nD τ sig → sProp 𝕄) : bigSep ringCells Φ = bigSep Finset.univ fun c : Dev nD => bigSep Finset.univ fun k : Cl => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_sum, bigSep_univ_sum]
    rfl
  iintro HX
  imod (Rounds.fund ER (Rd X W) ringCells ringToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (kcell (c, none)) 0 := by
  unfold unscopedSems0; rw [bigSep_eq_bigSepL_of_eq [SemLoc.reg barA.sem] (by decide) (by decide)]; rfl

/-- All cells of a device at zero: its own semaphores and the barrier's. -/
theorem sems0_eq (c : Dev nD) : (bigSep Finset.univ fun k : Cl => semVal (kcell (c, k)) 0 : sProp 𝕄)
    = iprop(unscopedSems0 c ∗ Pipeline.ownSems0 (Ix := Unit) (Name := ℕ) (U := UU) (Lvl := ℕ) (Val := Elt F) (τ := τ) osem c) := by
  rw [bigSep_cl, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : Cl => iprop(∃ κ : ℕ, cellInv ER (Rd X W) κ (kcell (c, k))))
          ∗ (bigSep Finset.univ fun k : Cl => iprop(pos c k 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Cl => semVal (kcell (c, k)) 0) ∗ bigSep Finset.univ fun k : Cl => roundState ER (Rd X W) (kcell (c, k)) 0)
      ⊢ (|={Set.univ}=> bigSep Finset.univ fun k : Cl => iprop(∃ κ : ℕ, cellInv ER (Rd X W) κ (kcell (c, k))) : sProp 𝕄) from by
        rw [← bigSep_sep']
        exact (bigSep_mono fun k _ => (Rounds.body_intro ER (Rd X W) (kcell (c, k))).trans inv_alloc).trans (bigSep_fupd _ _)) $$ [Hv Hst] with Hinv
  · isplitl [Hv] <;> iassumption
  imodintro
  isplitl [Hinv]; · iexact Hinv
  isplitl [Hat] <;> iassumption

/-- Every cell's invariant and that its round 0 has begun. -/
def recs (K : Dev nD × Cl → ℕ) : sProp 𝕄 :=
  iprop((bigSep Finset.univ fun ck : Dev nD × Cl => (cellInv ER (Rd X W) (K ck) (kcell ck) : sProp 𝕄))
    ∗ (bigSep Finset.univ fun ck : Dev nD × Cl => (reached ER (kcell ck) 0 : sProp 𝕄)))
instance recs_persistent (K : Dev nD × Cl → ℕ) : BI.Persistent (recs X W K) := by unfold recs; infer_instance

/-- A device's positions at its cells, and the tokens it pays with. -/
def linear (c : Dev nD) : sProp 𝕄 := iprop((bigSep Finset.univ fun k : Cl => pos c k 0) ∗ payToks c)
def G' (c : Dev nD) : sProp 𝕄 := iprop(∃ K, recs X W K ∗ linear c)

theorem ghost_intro (K : Dev nD × Cl → ℕ) (c : Dev nD) : iprop(recs X W K ∗ linear c) ⊢ G' X W c :=
  exists_intro (Φ := fun K => iprop(recs X W K ∗ linear c)) K

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cl => iprop(∃ κ : ℕ, cellInv ER (Rd X W) κ (kcell (c, k))))
          ∗ (bigSep Finset.univ fun k : Cl => iprop(pos c k 0 ∗ reached ER (kcell (c, k)) 0)) ∗ toks c) : sProp 𝕄)
      ⊢ bigSep Finset.univ (G' X W) := by
  rw [bigSep_sep', bigSep_sep', ← bigSep_univ_prod (fun ck : Dev nD × Cl => iprop(∃ κ : ℕ, cellInv ER (Rd X W) κ (kcell ck))),
    bigSep_congr (s := Finset.univ) (fun (c : Dev nD) _ => bigSep_sep' Finset.univ (fun k : Cl => (pos c k 0 : sProp 𝕄)) (fun k => reached ER (kcell (c, k)) 0)),
    bigSep_sep', ← bigSep_univ_prod (fun ck : Dev nD × Cl => (reached ER (kcell ck) 0 : sProp 𝕄))]
  iintro ⟨HI, ⟨Hat, #HR⟩, Htok⟩
  ihave HK := (BI.bigSep_exists_pi Finset.univ (fun (ck : Dev nD × Cl) (κ : ℕ) => (cellInv ER (Rd X W) κ (kcell ck) : sProp 𝕄))) $$ HI
  icases HK with ⟨%K, #HI⟩
  ihave Htk := (toks_around (F := F)) $$ Htok
  iapply (with_persistent (R := recs X W K) fun c _ => ghost_intro X W K c)
  isplitr
  · unfold recs; isplitl; · iexact HI
    iexact HR
  · iapply (Entails.of_eq (bigSep_sep' Finset.univ (fun c : Dev nD => bigSep Finset.univ fun k : Cl => (pos c k 0 : sProp 𝕄)) payToks).symm)
    isplitl [Hat]; · iexact Hat
    iexact Htk

/-- Every device's semaphores become its cells. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## The credits -/

/-- The permutation that a payment makes of the devices. -/
def payee : Pay → (Dev nD ≃ Dev nD)
  | .bar r => (along r).symm
  | .xfer r _ _ => along r
  | .crd r => (along r).symm
theorem payee_eq (p : Pay) (d : Dev nD) : payee p d = p.dev d := by cases p <;> rfl

/-- All devices together owe a cell its amount, once for each payment of that kind. -/
theorem owed_sum (c : Dev nD) (k : Cl) : ∀ l : List Pay, (∑ d : Dev nD, owed d l (kcell (c, k)) ()) = l.countP (fun p => decide (p.cl = k)) * amt k
  | [] => by simp [owed]
  | p :: l => by
    have h1 : ∀ d : Dev nD, (tallyAt (kcell (p.dev d, p.cl)) () (amt p.cl) : CellTallies nD τ sig Unit) (kcell (c, k)) ()
        = if d = (payee p).symm c then (if p.cl = k then amt k else 0) else 0 := fun d => by
      rw [tallyAt_apply]
      by_cases h : kcell (c, k) = kcell (p.dev d, p.cl)
      · obtain ⟨rfl, rfl⟩ := Prod.mk.inj (kcell_injective h)
        rw [if_pos ⟨rfl, rfl⟩, ← payee_eq, Equiv.symm_apply_apply, if_pos rfl, if_pos rfl]
      · rw [if_neg fun h' => h h'.1]
        by_cases hd : d = (payee p).symm c
        · rw [if_pos hd, if_neg]
          rintro rfl
          subst hd
          exact h (by rw [← payee_eq, Equiv.apply_symm_apply])
        · rw [if_neg hd]
    have h2 : ∀ d : Dev nD, owed d (p :: l) (kcell (c, k)) () = owed d l (kcell (c, k)) () + if d = (payee p).symm c then (if p.cl = k then amt k else 0) else 0 :=
      fun d => by rw [← h1 d]; rfl
    rw [Finset.sum_congr rfl fun d _ => h2 d, Finset.sum_add_distrib, owed_sum c k l, Finset.sum_ite_eq' Finset.univ, if_pos (Finset.mem_univ _),
      List.countP_cons, Nat.add_mul]
    by_cases h : p.cl = k
    · rw [if_pos h, if_pos (decide_eq_true h), Nat.one_mul]
    · rw [if_neg h, if_neg (by rw [decide_eq_true_eq]; exact h), Nat.zero_mul]

def O₀ (c : Dev nD) : CellTallies nD τ sig Unit := owed c allPays

theorem launch_cell (c : Dev nD) (k : Cl) (n : ℕ) (h : allPays.countP (fun p => decide (p.cl = k)) * amt k = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, ← h]
  exact owed_sum c k allPays

theorem count_bar : allPays.countP (fun p => decide (p.cl = none)) = 2 := by decide +kernel
theorem count_rcv : ∀ j : J, allPays.countP (fun p => decide (p.cl = some (rcvC j.1.1 j.2 j.1.2))) = 1 := by decide +kernel
theorem count_crd : ∀ r : Bool, allPays.countP (fun p => decide (p.cl = some (crdC r))) = 1 := by decide +kernel

/-- Device `c`'s credits: two units at the barrier, a transfer at each receive semaphore, a unit at each credit semaphore. -/
theorem creds (c : Dev nD) :
    (Pipeline.launchCred O₀ c : sProp 𝕄) ⊢ iprop(cred (tallyAt (kcell (c, none)) () 2) ∗ (bigSep Finset.univ fun j : J => claimOn c (some (rcvC j.1.1 j.2 j.1.2)))
      ∗ claimOn c (some (crdC true)) ∗ claimOn c (some (crdC false))) := by
  have hm : ∀ Φ : SemLoc sig → sProp 𝕄, bigSep Finset.univ Φ ⊢ bigSep Finset.univ fun k : Cl => Φ (csem k) := fun Φ =>
    (bigSep_subset (Finset.subset_univ (Finset.univ.map ⟨csem, csem_injective⟩))).trans (Entails.of_eq (bigSep_map _))
  unfold Pipeline.launchCred
  refine (hm _).trans ?_
  rw [bigSep_cl, bigSep_own]
  have h1 := launch_cell c none 2 (by rw [count_bar]; rfl)
  have h2 : ∀ j : J, _ := fun j => launch_cell c (some (rcvC j.1.1 j.2 j.1.2)) _ (by rw [count_rcv j, Nat.one_mul])
  have h3 : ∀ r : Bool, _ := fun r => launch_cell c (some (crdC r)) _ (by rw [count_crd, Nat.one_mul])
  have h2' : (fun j : J => (cred (tallyOn (kcell (c, some (rcvC j.1.1 j.2 j.1.2))) (launchCredit (Pipeline.owing O₀) 0 (kcell (c, some (rcvC j.1.1 j.2 j.1.2))))) : sProp 𝕄))
      = fun j => claimOn c (some (rcvC j.1.1 j.2 j.1.2)) := funext fun j => by rw [h2 j]
  rw [h1, h3 true, h3 false]
  iintro ⟨H1, ⟨-, H2⟩, H3, H4⟩
  ihave H2 := (Entails.of_eq (congrArg (bigSep Finset.univ) h2')) $$ H2
  iframe H1 H2 H3 H4

end Cert.RingProof

end
-- ==== Proof.ProgramEq.lean ====
module

public import proofs.«01_k».proof.Proof.Program

@[expose] public section

set_option maxRecDepth 65536

noncomputable section

namespace Cert.RingProof

open Cert.KernelIdeal Cert.KernelIdeal.Gen

open Idealize.ShloMosaic
open Idealize.ShloMosaic.TcCoe
open Idealize.SL Idealize.SL.Sem

variable {F : FTy → Type} [FloatOps F]

set_option maxHeartbeats 0 in
/-- The printed body, at the kernel's buffers, is the program of rings, hops and subtiles. -/
theorem body_eq : cc0_body (F := F) xM (Memref.isWhole_whole _) wM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 = body := by
  rw [cc0_body_eq_skeleton]
  chain_rfl

end Cert.RingProof

end
-- ==== Proof.Run.lean ====
module

public import proofs.«01_k».proof.Proof.Launch
public import proofs.«01_k».proof.Proof.ProgramEq

@[expose] public section

noncomputable section

/-! # The run of the four devices -/

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Pieces
variable (X : Dev nD → Vec F S4096x1024 .f32) (W : Dev nD → Vec F S1024x2048 .f32)

/-! ## The result, whole -/

/-- Where an element of the result lies in its subtile. -/
def inPiece (x : S1024x2048.Idx) : S256x1024.Idx := fun a =>
  match a with
  | ⟨0, _⟩ => ⟨(x 0).val % 256, Nat.mod_lt _ (by decide)⟩
  | ⟨1, _⟩ => ⟨(x 1).val % 1024, Nat.mod_lt _ (by decide)⟩
  | ⟨n + 2, h⟩ => absurd h (Nat.not_lt.2 (Nat.le_add_left _ _))
def pieceRow (x : S1024x2048.Idx) : Fin 4 := ⟨(x 0).val / 256, Nat.div_lt_of_lt_mul (x 0).isLt⟩

/-- The result of device `c`: the left half from one ring, the right half from the other, in four subtiles each. -/
def outAt (c : Dev nD) : Vec F S1024x2048 .f32 := fun x => outV X W c (decide ((x 1).val < 1024)) (pieceRow x) (inPiece x)

theorem outAt_emb (c : Dev nD) (r : Bool) (i : Fin 4) (j : S256x1024.Idx) : outAt X W c ((outRect r i).emb j) = outV X W c r i j := by
  have e0 : (((outRect r i).emb j) 0).val = i.val * 256 + (j 0).val := by
    show i.val * 256 + 1 * (j 0).val = _; omega
  have e1 : (((outRect r i).emb j) 1).val = (half r).val * 1024 + (j 1).val := by
    show (half r).val * 1024 + 1 * (j 1).val = _; omega
  have h0 : (j 0).val < 256 := (j 0).isLt
  have h1 : (j 1).val < 1024 := (j 1).isLt
  have hr : decide ((((outRect r i).emb j) 1).val < 1024) = r := by
    rw [e1]; cases r <;> simp [half] <;> omega
  have hi : pieceRow ((outRect r i).emb j) = i := Fin.ext (by
    show (((outRect r i).emb j) 0).val / 256 = i.val
    rw [e0]; omega)
  have hj : inPiece ((outRect r i).emb j) = j := by
    funext a
    match a with
    | ⟨0, _⟩ => exact Fin.ext (by show (((outRect r i).emb j) 0).val % 256 = (j 0).val; rw [e0]; omega)
    | ⟨1, _⟩ => exact Fin.ext (by show (((outRect r i).emb j) 1).val % 1024 = (j 1).val; rw [e1]; omega)
  unfold outAt
  rw [hr, hi, hj]

/-! ## What the body takes, out of what the launch gives; and back -/

theorem sendToks_all (c : Dev nD) :
    iprop((bigSep Finset.univ fun j : J => (tok c (some (sndC j.1.1 j.2 j.1.2)) false : sProp 𝕄)) ∗ bigSep Finset.univ fun j : J => tok (dn j.1.1 c) (some (rcvC j.1.1 j.2 j.1.2)) false)
      = iprop((bigSep Finset.univ fun p : Bool × Fin 4 => (sendToks c p.1 0 p.2 : sProp 𝕄)) ∗ (bigSep Finset.univ fun p : Bool × Fin 4 => sendToks c p.1 1 p.2)
        ∗ bigSep Finset.univ fun p : Bool × Fin 4 => sendToks c p.1 2 p.2) := by
  rw [← bigSep_sep', bigSep_hops]; rfl

theorem waitPos_all (c : Dev nD) :
    iprop((bigSep Finset.univ fun j : J => (pos c (some (sndC j.1.1 j.2 j.1.2)) 0 : sProp 𝕄)) ∗ (bigSep Finset.univ fun j : J => pos c (some (rcvC j.1.1 j.2 j.1.2)) 0)
        ∗ bigSep Finset.univ fun j : J => claimOn c (some (rcvC j.1.1 j.2 j.1.2)))
      = iprop((bigSep Finset.univ fun p : Bool × Fin 4 => (waitPos c p.1 0 p.2 : sProp 𝕄)) ∗ (bigSep Finset.univ fun p : Bool × Fin 4 => waitPos c p.1 1 p.2)
        ∗ bigSep Finset.univ fun p : Bool × Fin 4 => waitPos c p.1 2 p.2) := by
  rw [← bigSep_sep', ← bigSep_sep', bigSep_hops]; rfl

theorem donePos_all (c : Dev nD) :
    iprop((bigSep Finset.univ fun j : J => (pos c (some (sndC j.1.1 j.2 j.1.2)) 1 : sProp 𝕄)) ∗ bigSep Finset.univ fun j : J => pos c (some (rcvC j.1.1 j.2 j.1.2)) 1)
      = iprop((bigSep Finset.univ fun p : Bool × Fin 4 => (donePos c p.1 0 p.2 : sProp 𝕄)) ∗ (bigSep Finset.univ fun p : Bool × Fin 4 => donePos c p.1 1 p.2)
        ∗ bigSep Finset.univ fun p : Bool × Fin 4 => donePos c p.1 2 p.2) := by
  rw [← bigSep_sep', bigSep_hops]; rfl

/-- All positions of a device at one round, kind by kind. -/
theorem pos_all (c : Dev nD) (n : ℕ) : (bigSep Finset.univ fun k : Cl => (pos c k n : sProp 𝕄))
    = iprop(pos c none n ∗ ((bigSep Finset.univ fun j : J => pos c (some (sndC j.1.1 j.2 j.1.2)) n) ∗ bigSep Finset.univ fun j : J => pos c (some (rcvC j.1.1 j.2 j.1.2)) n)
        ∗ pos c (some (crdC true)) n ∗ pos c (some (crdC false)) n) := by
  rw [bigSep_cl, bigSep_own]

/-- The four scratch buffers, whole at some contents. -/
def scratch (c : Dev nD) : sProp 𝕄 :=
  iprop(anyWhole (F := F) ((commM true).view.loc (c : Thread nD τ)) ∗ anyWhole (F := F) ((commM false).view.loc (c : Thread nD τ))
    ∗ anyWhole (F := F) ((stageM true).view.loc (c : Thread nD τ)) ∗ anyWhole (F := F) ((stageM false).view.loc (c : Thread nD τ)))

theorem scratch_eq (c : Dev nD) :
    (Pipeline.scopedRest (Ix := Unit) (Name := ℕ) (U := UU) (Lvl := ℕ) (Val := Elt F) (τ := τ) spec0 c : sProp 𝕄) = scratch c := by
  rw [scopedRest0_eq]; rfl

theorem slots_eq (c : Dev nD) (r : Bool) :
    (bigSep Finset.univ fun p : Fin 2 × Fin 4 => commAny (F := F) c r p.1 p.2) = iprop(slot0 (F := F) c r ∗ slot1 c r) := by
  rw [bigSep_univ_prod, bigSep_fin_two]; rfl

theorem stages_eq (c : Dev nD) : (bigSep Finset.univ fun p : Bool × Fin 4 => stageAny (F := F) c p.1 p.2)
    = iprop((bigSep Finset.univ fun i => stageAny (F := F) c true i) ∗ bigSep Finset.univ fun i => stageAny (F := F) c false i) := by
  rw [bigSep_univ_prod, bigSep_both]
theorem comms_eq (c : Dev nD) (s : Fin 2) : (bigSep Finset.univ fun p : Bool × Fin 4 => commAny (F := F) c p.1 s p.2)
    = iprop((bigSep Finset.univ fun i => commAny (F := F) c true s i) ∗ bigSep Finset.univ fun i => commAny (F := F) c false s i) := by
  rw [bigSep_univ_prod, bigSep_both]

/-- The scratch buffers, piece by piece, -/
theorem scratch_split (c : Dev nD) :
    scratch (F := F) c ⊢ iprop((slot0 c true ∗ slot1 c true) ∗ (slot0 c false ∗ slot1 c false) ∗ bigSep Finset.univ fun p : Bool × Fin 4 => stageAny (F := F) c p.1 p.2) := by
  unfold scratch
  rw [stages_eq, ← slots_eq, ← slots_eq]
  iintro ⟨H1, H2, H3, H4⟩
  isplitl [H1]; · iapply (comm_split c true); iexact H1
  isplitl [H2]; · iapply (comm_split c false); iexact H2
  isplitl [H3]; · iapply (stage_split c true); iexact H3
  iapply (stage_split c false); iexact H4

/-- and back. -/
theorem scratch_join (c : Dev nD) :
    iprop((bigSep Finset.univ fun p : Bool × Fin 4 => stageAny (F := F) c p.1 p.2) ∗ (bigSep Finset.univ fun p : Bool × Fin 4 => commAny (F := F) c p.1 0 p.2)
      ∗ bigSep Finset.univ fun p : Bool × Fin 4 => commAny (F := F) c p.1 1 p.2) ⊢ scratch (F := F) c := by
  unfold scratch
  rw [stages_eq, comms_eq, comms_eq]
  iintro ⟨⟨H3, H4⟩, ⟨H1, H2⟩, H5, H6⟩
  isplitl [H1 H5]
  · iapply (comm_join c true); iapply (Entails.of_eq (slots_eq c true).symm); unfold slot0 slot1; isplitl [H1] <;> iassumption
  isplitl [H2 H6]
  · iapply (comm_join c false); iapply (Entails.of_eq (slots_eq c false).symm); unfold slot0 slot1; isplitl [H2] <;> iassumption
  isplitl [H3]; · iapply (stage_join c true); iexact H3
  iapply (stage_join c false); iexact H4

theorem carryA0 (c : Dev nD) (r : Bool) : (carryA c r 0 : sProp 𝕄) = tok (up r c) (some (crdC r)) false := by simp only [carryA]
theorem carryB0 (c : Dev nD) (r : Bool) : (carryB c r 0 : sProp 𝕄) = iprop(pos c (some (crdC r)) 0 ∗ claimOn c (some (crdC r))) := by simp only [carryB]

/-- What the body takes. -/
theorem bodyIn_intro (c : Dev nD) (Y : Vec F S1024x2048 .f32) :
    iprop(linear c ∗ Pipeline.launchCred O₀ c ∗ scratch c ∗ owns (c : Thread nD τ) oM fullShare Y ∗ due c allPays) ⊢ bodyIn (F := F) c := by
  unfold linear payToks bodyIn
  rw [pos_all, bigSep_both, bigSep_both, sendToks_all, carryA0, carryA0, carryB0, carryB0]
  iintro ⟨⟨⟨Hp, ⟨Hps, Hpr⟩, Hpt, Hpf⟩, ⟨Hb1, Hb2⟩, ⟨Hs0, Hs1, Hs2⟩, Hc1, Hc2⟩, Hcr, Hscr, Hout, HO⟩
  ihave Hcr := (creds (F := F) c) $$ Hcr
  icases Hcr with ⟨Hcb, Hcv, Hct, Hcf⟩
  ihave Hscr := (scratch_split (F := F) c) $$ Hscr
  icases Hscr with ⟨Hsl1, Hsl2, Hst⟩
  ihave Hout := (out_split (F := F) c Y) $$ Hout
  ihave Hw := (Entails.of_eq (waitPos_all (F := F) c)) $$ [Hps Hpr Hcv]
  · isplitl [Hps]; · iexact Hps
    isplitl [Hpr] <;> iassumption
  icases Hw with ⟨Hw0, Hw1, Hw2⟩
  iframe HO Hb1 Hb2 Hsl1 Hsl2 Hcb Hp Hst Hout Hs0 Hs1 Hs2 Hw0 Hw1 Hw2 Hc1 Hc2 Hpt Hct Hpf Hcf

/-- Every cell of a device closes at round 1, its counter at zero. -/
theorem close_all (K : Dev nD × Cl → ℕ) (c : Dev nD) :
    iprop((bigSep Finset.univ fun ck : Dev nD × Cl => (cellInv ER (Rd X W) (K ck) (kcell ck) : sProp 𝕄)) ∗ bigSep Finset.univ fun k : Cl => pos c k 1)
      ⊢ iprop(|={Set.univ}=> bigSep Finset.univ fun k : Cl => semVal (kcell (c, k)) 0) :=
  (with_persistent fun k _ => (sep_mono_left (inv_of X W K (c, k))).trans
    (Rounds.cell_close ER (Rd X W) (Set.mem_univ (K (c, k))) (fun h => h) (R := 0 + 1) (duties_later X W (kcell (c, k))))).trans (bigSep_fupd _ _)

/-- What the body leaves. -/
theorem bodyOut_elim (K : Dev nD × Cl → ℕ) (c : Dev nD) :
    iprop(ctx X W K ∗ bodyOut X W c) ⊢ iprop(|={Set.univ}=> (due c [] ∗ scratch c ∗ owns (c : Thread nD τ) oM fullShare (outAt X W c)
      ∗ bigSep Finset.univ fun k : Cl => semVal (kcell (c, k)) 0)) := by
  unfold bodyOut ctx
  iintro ⟨⟨#HI, -, -⟩, HO, Hp, Hst, Hc0, Hc1, Hout, Hd0, Hd1, Hd2, Hpt, Hpf⟩
  ihave Hd := (Entails.of_eq (donePos_all (F := F) c).symm) $$ [Hd0 Hd1 Hd2]
  · isplitl [Hd0]; · iexact Hd0
    isplitl [Hd1] <;> iassumption
  ihave Hpos := (Entails.of_eq (pos_all (F := F) c 1).symm) $$ [Hp Hd Hpt Hpf]
  · isplitl [Hp]; · iexact Hp
    isplitl [Hd]; · iexact Hd
    isplitl [Hpt] <;> iassumption
  imod (close_all X W K c) $$ [Hpos] with Hz
  · isplitr; · iexact HI
    iexact Hpos
  imodintro
  isplitl [HO]; · iexact HO
  isplitl [Hst Hc0 Hc1]
  · iapply (scratch_join (F := F) c)
    isplitl [Hst]; · iexact Hst
    isplitl [Hc0] <;> iassumption
  isplitl [Hout]
  · iapply (out_join c (outAt X W c) (fun r i => outV X W c r i) (fun r i => outAt_emb X W c r i)); iexact Hout
  iexact Hz

end Pieces

end Cert.RingProof

end
-- ==== Proof.RunMain.lean ====
module

public import proofs.«01_k».proof.Proof.Run
public import Idealize.ShloMosaic.Lib.Pipeline.CollectiveSegs

@[expose] public section

noncomputable section

/-! # The run of @main -/

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at the start: memory `m`, every counter at zero. -/
def s₀ : MemSt nD τ sig (Elt F) := ⟨m, fun _ => 0, ρ⟩

/-- The blocks of the arguments on each device. -/
def xIn (c : Dev nD) : Vec F S4096x1024 .f32 := (win0_0.blk (0 : Fin 1)).view.read (Elt F) ((s₀ m ρ).mem ((c : Thread nD τ).loc main_arg0))
def wIn (c : Dev nD) : Vec F S1024x2048 .f32 := (win0_1.blk (0 : Fin 1)).view.read (Elt F) ((s₀ m ρ).mem ((c : Thread nD τ).loc main_arg1))

/-- What a device's body starts from beside its scratch buffers; what it has before and after. -/
def start (c : Dev nD) : sProp 𝕄 := iprop(G' (xIn m ρ) (wIn m ρ) c ∗ Pipeline.launchCred O₀ c ∗ levAts L lv)
def Φ₀ (c : Dev nD) : sProp 𝕄 := iprop(start m ρ c ∗ scratch c)
def Φ₁ (c : Dev nD) : sProp 𝕄 := iprop(scratch c ∗ bigSep Finset.univ fun k : Cl => semVal (kcell (c, k)) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => outAt (xIn m ρ) (wIn m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The operands whole, as the body takes them. -/
theorem ops_eq (c : Dev nD) (x : Vec F S4096x1024 .f32) (w : Vec F S1024x2048 .f32) :
    iprop(owns (c : Thread nD τ) xM fullShare x ∗ owns (c : Thread nD τ) wM fullShare w) = (ops c x w : sProp 𝕄) := by
  have h : ∀ (b : Ref sig .tc) (X : b.ty.Contents (Elt F)),
      (owns (c : Thread nD τ) (Memref.whole b) fullShare X : sProp 𝕄) = (((c : Thread nD τ).loc b) ↦{fullShare} X) := fun b X => by
    rw [owns_whole_eq]
    have h1 : iprop(∃ f : Buf (Elt F) (((c : Dev nD) : Thread nD τ).loc b), ⌜f = X⌝ ∗ (((c : Thread nD τ).loc b) ↦{fullShare} f))
        ⊢ ((((c : Thread nD τ).loc b) ↦{fullShare} X) : sProp 𝕄) := by
      iintro ⟨%f, %hf, H⟩
      subst hf
      iexact H
    have h2 : ((((c : Thread nD τ).loc b) ↦{fullShare} X) : sProp 𝕄)
        ⊢ iprop(∃ f : Buf (Elt F) (((c : Dev nD) : Thread nD τ).loc b), ⌜f = X⌝ ∗ (((c : Thread nD τ).loc b) ↦{fullShare} f)) := by
      iintro H
      iexists X
      isplitr; · (ipureintro; rfl)
      iexact H
    exact BI.Entails.antisymm h1 h2
  rw [h, h]; rfl

/-! ## The body -/

def bodyPre (c : Dev nD) : sProp 𝕄 :=
  iprop(Φ₀ m ρ c ∗ (dats m ρ 0 c).owesAt () t₀.castSucc
    ∗ (∃ d, owns (c : Thread nD τ) xM fullShare ((dats m ρ 0 c).before (0 : Fin 3) t₀ d))
    ∗ (∃ d, owns (c : Thread nD τ) wM fullShare ((dats m ρ 0 c).before (1 : Fin 3) t₀ d))
    ∗ (∃ d, owns (c : Thread nD τ) oM fullShare ((dats m ρ 0 c).before (2 : Fin 3) t₀ d)))

def bodyPost (c : Dev nD) : sProp 𝕄 :=
  iprop(Φ₁ c ∗ (dats m ρ 0 c).owesAt () t₀.succ ∗ owns (c : Thread nD τ) xM fullShare (xIn m ρ c) ∗ owns (c : Thread nD τ) wM fullShare (wIn m ρ c)
    ∗ owns (c : Thread nD τ) oM fullShare (outAt (xIn m ρ) (wIn m ρ) c))

theorem before_x (c : Dev nD) (d) : (dats m ρ 0 c).before (0 : Fin 3) t₀ d = xIn m ρ c := by
  unfold Dat.before; rw [if_pos (fetch_0 t₀)]; rfl
theorem before_w (c : Dev nD) (d) : (dats m ρ 0 c).before (1 : Fin 3) t₀ d = wIn m ρ c := by
  unfold Dat.before; rw [if_pos (fetch_1 t₀)]; rfl

theorem wp_body_fupd (X : Dev nD → Vec F S4096x1024 .f32) (W : Dev nD → Vec F S1024x2048 .f32) (K : Dev nD × Cl → ℕ) (c : Dev nD) (Q : PUnit → sProp 𝕄) :
    iprop(ctx X W K ∗ ops c (X c) (W c) ∗ bodyIn c) ⊢ iprop(((ops c (X c) (W c) ∗ bodyOut X W c) -∗ |={Set.univ}=> Q ⟨⟩) -∗ WP c body Q) := by
  iintro H Hk
  iapply wp_fupd
  iapply (wp_body X W K c fun v => iprop(|={Set.univ}=> Q v)) $$ H
  iexact Hk

theorem sound_body (c : Dev nD) : bodyPre m ρ c ⊢ WP c (body (F := F)) fun _ => bodyPost m ρ c := by
  unfold bodyPre Φ₀ start G' recs Dat.owesAt Pipeline.owesWithin
  iintro ⟨⟨⟨⟨%K, ⟨#HI, #HR⟩, Hlin⟩, Hcr, #Hlev⟩, Hscr⟩, ⟨%Ws, %hW, HO⟩, ⟨%d0, Hx⟩, ⟨%d1, Hw⟩, ⟨%d2, Hout⟩⟩
  rw [before_x, before_w]
  ihave Hops := (Entails.of_eq (ops_eq (F := F) c (xIn m ρ c) (wIn m ρ c))) $$ [Hx Hw]
  · isplitl [Hx] <;> iassumption
  ihave Hin := (bodyIn_intro (F := F) c _) $$ [Hlin Hcr Hscr Hout HO]
  · isplitl [Hlin]; · iexact Hlin
    isplitl [Hcr]; · iexact Hcr
    isplitl [Hscr]; · iexact Hscr
    isplitl [Hout]; · iexact Hout
    unfold due
    iexists Ws; iexact HO
  iapply (wp_body_fupd (xIn m ρ) (wIn m ρ) K c) $$ [Hops Hin]
  · isplitr
    · unfold ctx
      isplitr; · iexact HI
      isplitr; · iexact HR
      iexact Hlev
    isplitl [Hops] <;> iassumption
  iintro ⟨Hops, Hbo⟩
  imod (bodyOut_elim (xIn m ρ) (wIn m ρ) K c) $$ [Hbo] with ⟨HO, Hscr, Hout, Hz⟩
  · isplitr
    · unfold ctx
      isplitr; · iexact HI
      isplitr; · iexact HR
      iexact Hlev
    iexact Hbo
  imodintro
  unfold bodyPost Φ₁ Dat.owesAt Pipeline.owesWithin due
  rw [show (dats m ρ 0 c).owed t₀.succ = 0 from rfl]
  icases HO with ⟨%Ws', HO⟩
  ihave Hops := (Entails.of_eq (ops_eq (F := F) c (xIn m ρ c) (wIn m ρ c)).symm) $$ Hops
  icases Hops with ⟨Hx, Hw⟩
  isplitl [Hscr Hz]
  · isplitl [Hscr] <;> iassumption
  isplitl [HO]
  · iexists Ws'
    isplitr; · ipureintro; exact fun _ _ => Or.inl trivial
    iexact HO
  isplitl [Hx]; · iexact Hx
  isplitl [Hw] <;> iassumption

set_option maxRecDepth 65536 in
theorem body_obligation (c : Dev nD) : BodyObligation (dats (F := F) m ρ 0 c) (defs₀ (F := F)) 𝒱₀ () Set.univ := fun t => by
  rw [fin_N t]
  rw [bigSep_W, bigSep_W]
  show bodyPre m ρ c ⊢ wp frame (wpE (defs₀ (F := F)) 𝒱₀ c none) Set.univ
    (cc0_body (F := F) xM (Memref.isWhole_whole _) wM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9) (fun _ => bodyPost m ρ c)
  rw [body_eq]
  exact sound_body m ρ c

/-! ## The launch's side conditions -/

theorem ownSemFacts : Pipeline.OwnSemFacts cfg0.spec osem := by decide +kernel
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m ρ) (wIn m ρ) c)
      ⊢ |={Set.univ}=> iprop(start m ρ c ∗ emp) := by
  iintro ⟨-, Hlev, Hcr, -, HG⟩
  imodintro
  unfold start
  isplitl
  · isplitl [HG]; · iexact HG
    isplitl [Hcr] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  iintro ⟨Hr, Hz⟩
  ihave Hz := (Entails.of_eq (sems0_eq (F := F) c)) $$ Hz
  icases Hz with ⟨Hu, Ho⟩
  isplitl [Hu]; · iexact Hu
  isplitl [Ho] <;> iassumption

/-- The staging semaphores are none of the protocol's. -/
theorem stage_ne : ∀ (w : Fin cfg0.W) (s : Fin (cfg0.win w).nbuf) (k : Cl), csem k ≠ .dma ((cfg0.win w).sem s) := by decide +kernel

theorem waits_stage (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait_of c _ 0 allPays ?_ fun p _ => lvl_pos p
      unfold lv clOf Function.partialInv
      rw [dif_neg fun ⟨k, hk⟩ => stage_ne w s k hk]
    · show (levAts L lv : sProp 𝕄) ⊢ MayWait _ _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values, from any memory with zero counters: every weakly fair execution of @main on the four devices
    terminates, and every final state has each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_stage m ρ)
    (G := G (xIn m ρ) (wIn m ρ)) (G' := G' (xIn m ρ) (wIn m ρ)) (u₀ := u₀)
    (hu₀ := by
      unfold u₀
      iintro Hu
      ihave H := (ownU_pair _ _) $$ Hu
      icases H with ⟨HP, HX⟩
      imod (fund_ring (xIn m ρ) (wIn m ρ)) $$ HX with HG
      imodintro
      isplitl [HP] <;> iassumption)
    (hglob := glob (xIn m ρ) (wIn m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held; -/
theorem finalA_x (c : Dev nD) : finalA m ρ c (0 : Fin 3) = m (win0_0.arr.view.loc (c : Thread nD τ)) := (dats (F := F) m ρ 0 c).arrAt_in (0 : Fin 3) rfl _
theorem finalA_w (c : Dev nD) : finalA m ρ c (1 : Fin 3) = m (win0_1.arr.view.loc (c : Thread nD τ)) := (dats (F := F) m ρ 0 c).arrAt_in (1 : Fin 3) rfl _

/-- The result is written whole: what the block of the result's window reads at the end is `outAt` of the arguments. -/
theorem finalA_o (c : Dev nD) : (win0_2.blk (0 : Fin 1)).view.read (Elt F) (finalA m ρ c (2 : Fin 3)) = outAt (xIn m ρ) (wIn m ρ) c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

end Cert.RingProof

end
-- ==== Proof.Ref.lean ====
module

public import proofs.«01_k».proof.Proof.Gen.ReferenceIdeal
public import proofs.«01_k».proof.Proof.Gen.ReferenceIdeal.Run
public import Idealize.ShloMosaic.Lib.Quiescent

@[expose] public section

noncomputable section

/-! # The run of the reference

One device, host operations only: the product of the whole arrays, then `y / (1 + exp (-y))` element by element. -/

namespace Cert.RefProof

open Cert.ReferenceIdeal Cert.ReferenceIdeal.Gen
open Idealize.ShloMosaic Idealize.ShloMosaic.TcCoe Idealize.ShloMosaic.StableHlo Idealize.SL.Sem

variable {F : FTy → Type} [FloatOps F]

/-- The product of the whole arrays. -/
def refDot (x : FVec F S4096x4096 .f32) (w : FVec F S4096x2048 .f32) : FVec F S4096x2048 .f32 :=
  Host.dotGeneral dot_S4096x4096_S4096x2048_S4096x2048_1_0_0_1_n_n none x w

/-- The result of the reference from its arguments. -/
def refOut (x : FVec F S4096x4096 .f32) (w : FVec F S4096x2048 .f32) : FVec F S4096x2048 .f32 :=
  Host.divf (refDot x w)
    (addf (broadcastInDim S4096x2048 ![] bcast_S_S4096x2048 (constant S_ .f32 0x3F800000#32)) (Host.exp (Host.negf (refDot x w))))

/-- From any memory with zero counters every fair execution of @main terminates with `refOut` of the arguments in `%5`,
    the arguments unchanged and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5)
            = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨h, sem_eq_zero_of_no_sems (by decide) r.2⟩) (Cert.ReferenceIdeal.Value.run (F := F) m ρ)

end Cert.RefProof

end
-- ==== Proof.Frames.lean ====
module

public import proofs.«01_k».proof.Defs
public import proofs.«01_k».proof.Proof.Gen.Kernel
public import proofs.«01_k».proof.Proof.RunMain
public import proofs.«01_k».proof.Proof.Ref

@[expose] public section

noncomputable section

/-! # The frames

Each program ends, its arguments unchanged and every counter at zero. The kernel's run is proved over any float values, so
the idealized program's and the program's own are the same theorem. -/

namespace Cert.Proof

open Idealize.ShloMosaic Idealize.SL.Sem

/-- Over any float values the kernel ends with its arguments unchanged and its counters at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.RingProof.finalA_x m ρ c), (h.1 c (1 : Fin 3)).trans (Cert.RingProof.finalA_w m ρ c)⟩, h.2⟩)
    (Cert.RingProof.run_main m ρ)

/-- The idealized kernel ends with its arguments unchanged and its counters at zero. -/
theorem frame_ideal : Cert.quiescent_KernelIdeal := fun m ρ _ => frame_any (F := Ideal) m ρ

set_option smartUnfolding false in
/-- The kernel ends with its arguments unchanged and its counters at zero: the two programs are the same text. -/
theorem frame_kernel : Cert.quiescent_Kernel := fun m ρ _ => frame_any (F := Bits) m ρ

/-- The reference ends with its arguments unchanged and its counters at zero. -/
theorem frame_ref : Cert.quiescent_ReferenceIdeal := fun m ρ _ =>
  (θ_run Cert.ReferenceIdeal.defs _ _).mono (fun _ h => ⟨fun c => (h.1 c).2, h.2⟩) (Cert.RefProof.run_main (F := Ideal) m ρ)

end Cert.Proof

end
-- ==== Proof.Blocks.lean ====
module

public import proofs.«01_k».proof.Proof.Run
public import Idealize.ShloMosaic.Lib.Pointwise

@[expose] public section

noncomputable section

/-! # What the kernel computes, over the reals

Element by element: the block that starts a ring is one device's share of the product, each hop adds another device's, and the last
one takes `y * logistic y` of the sum. -/

namespace Cert.RingProof

open Cert.KernelIdeal Cert.KernelIdeal.Gen
open Idealize.ShloMosaic

/-! ## The operands that are loaded -/

set_option backward.proofsInPublic true in
/-- A row of the whole array: row `a` of subtile `i` of chunk `q`. -/
def row (q i : Fin 4) (a : Fin 256) : Fin 4096 := ⟨q.val * 1024 + i.val * 256 + a.val, by omega⟩
set_option backward.proofsInPublic true in
/-- A column of the whole array: column `b` of the half that ring `r` computes. -/
def col (r : Bool) (b : Fin 1024) : Fin 2048 := ⟨(half r).val * 1024 + b.val, by omega⟩

section
variable {F : FTy → Type} [FloatOps F]

/-- A load of `x` at a subtile of a chunk reads that subtile. -/
theorem xAt_apply (f : Vec F S4096x1024 .f32) (off : Fin 2 → Nat) (h : ∀ a, off a + S256x1024.size a ≤ S4096x1024.size a) (q i : Fin 4)
    (ho : off = ![q.val * 1024 + i.val * 256, 0]) (a : Fin 256) (k : Fin 1024) : xAt f off h (ix2 a k) = f (ix2 (row q i a) k) := by
  subst ho
  refine congrArg f (funext fun x => Fin.ext ?_)
  match x with
  | ⟨0, _⟩ => show q.val * 1024 + i.val * 256 + 1 * a.val = q.val * 1024 + i.val * 256 + a.val; omega
  | ⟨1, _⟩ => show 0 + 1 * k.val = k.val; omega

/-- A load of half the columns of `w` reads them. -/
theorem wHalf_apply (f : Vec F S1024x2048 .f32) (r : Bool) (k b : Fin 1024) : wHalf f r (ix2 k b) = f (ix2 k (col r b)) := by
  refine congrArg f (funext fun x => Fin.ext ?_)
  match x with
  | ⟨0, _⟩ => show 0 + 1 * k.val = k.val; omega
  | ⟨1, _⟩ => show (half r).val * 1024 + 1 * b.val = (half r).val * 1024 + b.val; omega

/-- A load of all of `w` reads it. -/
theorem wFull_apply (f : Vec F S1024x2048 .f32) (k : Fin 1024) (b : Fin 2048) : wFull f (ix2 k b) = f (ix2 k b) := by
  refine congrArg f (funext fun x => Fin.ext ?_)
  match x with
  | ⟨0, _⟩ => show 0 + 1 * k.val = k.val; omega
  | ⟨1, _⟩ => show 0 + 1 * b.val = b.val; omega

/-- Dropping the leading axis of one that `unsq` adds gives the block back. -/
theorem unsq_cast {e : EltTy} (Y : Vec F S256x1024 e) : shapeCast S256x1024 (unsq Y) shapeCasts_S1x256x1024_S256x1024 = Y := by
  funext j
  unfold shapeCast unsq
  exact congrArg Y ((Shape.reshapeEquiv _).symm_apply_apply j)

end

/-! ## The offsets -/

theorem off1_eq : ∀ (d : Dev nD) (i : Fin 4), k0_off1 d (subW i) = ![(up true d).val * 1024 + i.val * 256, 0] := by decide
theorem off2_eq : ∀ (d : Dev nD) (i : Fin 4), k0_off2 d (subW i) = ![(up false d).val * 1024 + i.val * 256, 0] := by decide
theorem off3_eq : ∀ (d : Dev nD) (s : Fin 3) (i : Fin 4),
    k0_off3 d (hopW s) (subW i) = ![((d.val + 6 - s.val) % 4) * 1024 + i.val * 256, 0] := by decide
theorem off4_eq : ∀ (d : Dev nD) (i : Fin 4), k0_off4 d (subW i) = ![(up true d).val * 1024 + i.val * 256, 0] := by decide

/-! ## The operations, at an element -/

theorem initVal_apply (x : FVec Ideal S256x1024 .f32) (w : FVec Ideal S1024x1024 .f32) (a : Fin 256) (b : Fin 1024) :
    (initVal (F := Ideal) x w (ix2 a b) : EReal) = ∑ k : Fin 1024, x (ix2 a k) * w (ix2 k b) := by
  pointwise [initVal, k0_pay1]

theorem oddVal_apply (x : FVec Ideal S256x1024 .f32) (w : FVec Ideal S1024x1024 .f32) (a : Fin 256) (b : Fin 1024) :
    (oddVal (F := Ideal) x w (ix2 a b) : EReal) = ∑ k : Fin 1024, x (ix2 a k) * w (ix2 k b) := by
  pointwise [oddVal, k0_pay34]

theorem evenVal_apply (r : Bool) (x : FVec Ideal S256x1024 .f32) (w : FVec Ideal S1024x2048 .f32) (a : Fin 256) (b : Fin 1024) :
    (evenVal (F := Ideal) r x w (ix2 a b) : EReal) = ∑ k : Fin 1024, x (ix2 a k) * w (ix2 k (col r b)) := by
  cases r
  · pointwise [evenVal, k0_pay12, k0_pay10, col]
  · pointwise [evenVal, k0_pay11, k0_pay10, col]

theorem stepVal_apply (p : FVec Ideal S256x1024 .f32) (Y : FVec Ideal S256x1024 .bf16) (j : S256x1024.Idx) :
    (stepVal (F := Ideal) p (unsq Y) j : EReal) = Y j + p j := by
  unfold stepVal k0_pay26
  rw [unsq_cast]
  pointwise

theorem lastVal_apply (p : FVec Ideal S256x1024 .f32) (Y : FVec Ideal S256x1024 .bf16) (j : S256x1024.Idx) :
    (lastVal (F := Ideal) p (unsq Y) j : EReal) = (Y j + p j) * Ideal.logistic (Y j + p j) := by
  unfold lastVal k0_pay67
  rw [unsq_cast]
  pointwise

end Cert.RingProof

end
-- ==== Proof.Value.lean ====
module

public import proofs.«01_k».proof.Proof.Blocks
public import proofs.«01_k».proof.Proof.Ref
public import Idealize.ShloMosaic.Lib.Pipeline.ValueKit.Acc

@[expose] public section

noncomputable section

/-! # The kernel's result is the reference's -/

namespace Cert.RingProof

open Cert.KernelIdeal Cert.KernelIdeal.Gen
open Idealize.ShloMosaic

variable (X : Dev nD → Vec Ideal S4096x1024 .f32) (W : Dev nD → Vec Ideal S1024x2048 .f32)

/-- The share of device `d` in an element of the product: the sum over the device's part of the contracted axis. -/
def share (d : Dev nD) (R : Fin 4096) (C : Fin 2048) : EReal := ∑ k : Fin 1024, (X d (ix2 R k) : EReal) * W d (ix2 k C)

/-! ## The blocks around a ring -/

theorem hop0_chunk : ∀ (r : Bool) (d : Dev nD), ((d.val + 6 - (0 : Fin 3).val) % 4) = (up r (up r d)).val := by decide
theorem hop1_chunk : ∀ (d : Dev nD), ((d.val + 6 - (1 : Fin 3).val) % 4) = (up true (up true (up true d))).val := by decide
theorem hop1_chunk' : ∀ (d : Dev nD), (up true d).val = (up false (up false (up false d))).val := by decide
theorem hop2_chunk : ∀ (d : Dev nD), ((d.val + 6 - (2 : Fin 3).val) % 4) = d.val := by decide

/-- The block that starts a ring: the device's share, in the chunk of rows of the device before. -/
theorem sent0_apply (r : Bool) (i : Fin 4) (d : Dev nD) (a : Fin 256) (b : Fin 1024) :
    (sent0 X W r i d (ix2 a b) : EReal) = share X W d (row (up r d) i a) (col r b) := by
  unfold sent0
  rw [initVal_apply]
  refine Finset.sum_congr rfl fun k _ => ?_
  rw [wHalf_apply]
  cases r
  · exact congrArg (· * _) (xAt_apply (X d) _ _ (up false d) i (off2_eq d i) a k)
  · exact congrArg (· * _) (xAt_apply (X d) _ _ (up true d) i (off1_eq d i) a k)

/-- The product added at the first hop: the device's share, in the chunk two devices before. -/
theorem prod0_apply (r : Bool) (i : Fin 4) (d : Dev nD) (a : Fin 256) (b : Fin 1024) :
    (prodV X W d r 0 i (ix2 a b) : EReal) = share X W d (row (up r (up r d)) i a) (col r b) := by
  show (evenVal (F := Ideal) r (xHop X d 0 i) (wFull (W d)) (ix2 a b) : EReal) = _
  rw [evenVal_apply]
  refine Finset.sum_congr rfl fun k _ => ?_
  rw [wFull_apply]
  exact congrArg (· * _) (xAt_apply (X d) _ _ (up r (up r d)) i ((off3_eq d 0 i).trans (by rw [hop0_chunk r d])) a k)

/-- At the second hop, in the chunk three devices before. -/
theorem prod1_apply (r : Bool) (i : Fin 4) (d : Dev nD) (a : Fin 256) (b : Fin 1024) :
    (prodV X W d r 1 i (ix2 a b) : EReal) = share X W d (row (up r (up r (up r d))) i a) (col r b) := by
  show (oddVal (F := Ideal) (xOdd X d r i) (wHalf (W d) r) (ix2 a b) : EReal) = _
  rw [oddVal_apply]
  refine Finset.sum_congr rfl fun k _ => ?_
  rw [wHalf_apply]
  cases r
  · exact congrArg (· * _) (xAt_apply (X d) _ _ (up false (up false (up false d))) i ((off4_eq d i).trans (by rw [hop1_chunk' d])) a k)
  · exact congrArg (· * _) (xAt_apply (X d) _ _ (up true (up true (up true d))) i ((off3_eq d 1 i).trans (by rw [hop1_chunk d])) a k)

/-- At the last hop, in the device's own chunk. -/
theorem prod2_apply (r : Bool) (i : Fin 4) (d : Dev nD) (a : Fin 256) (b : Fin 1024) :
    (prodV X W d r 2 i (ix2 a b) : EReal) = share X W d (row d i a) (col r b) := by
  show (evenVal (F := Ideal) r (xHop X d 2 i) (wFull (W d)) (ix2 a b) : EReal) = _
  rw [evenVal_apply]
  refine Finset.sum_congr rfl fun k _ => ?_
  rw [wFull_apply]
  exact congrArg (· * _) (xAt_apply (X d) _ _ d i ((off3_eq d 2 i).trans (by rw [hop2_chunk d])) a k)

/-- Going up a ring from any device meets every device once. -/
theorem around (f : Dev nD → EReal) (r : Bool) (c : Dev nD) :
    f (up r (up r (up r c))) + f (up r (up r c)) + f (up r c) + f c = ∑ d : Dev nD, f d := by
  have hs : ∑ d : Dev nD, f d = f 0 + f 1 + f 2 + f 3 := Fin.sum_univ_four f
  have hc : ∀ (r : Bool) (c : Dev nD), (({up r (up r (up r c)), up r (up r c), up r c, c} : Finset (Dev nD)) = Finset.univ)
      ∧ up r (up r (up r c)) ∉ ({up r (up r c), up r c, c} : Finset (Dev nD)) ∧ up r (up r c) ∉ ({up r c, c} : Finset (Dev nD))
      ∧ up r c ∉ ({c} : Finset (Dev nD)) := by decide
  obtain ⟨h, h1, h2, h3⟩ := hc r c
  rw [← h, Finset.sum_insert h1, Finset.sum_insert h2, Finset.sum_insert h3, Finset.sum_singleton]
  simp only [add_assoc]

/-- The sum a ring ends with on device `c`: every device's share, in the chunk of rows of device `c`. -/
theorem total (r : Bool) (i : Fin 4) (c : Dev nD) (a : Fin 256) (b : Fin 1024) :
    (sent2 X W r i (up r c) (ix2 a b) : EReal) + prodV X W c r 2 i (ix2 a b) = ∑ d : Dev nD, share X W d (row c i a) (col r b) := by
  have hr : ∀ (r : Bool) (c : Dev nD), up r (up r (up r (up r c))) = c := by decide
  have h1 : (sent1 X W r i (up r (up r c)) (ix2 a b) : EReal) = share X W (up r (up r (up r c))) (row c i a) (col r b)
      + share X W (up r (up r c)) (row c i a) (col r b) := by
    unfold sent1
    rw [stepVal_apply, sent0_apply, prod0_apply, hr]
  have h2 : (sent2 X W r i (up r c) (ix2 a b) : EReal) = share X W (up r (up r (up r c))) (row c i a) (col r b)
      + share X W (up r (up r c)) (row c i a) (col r b) + share X W (up r c) (row c i a) (col r b) := by
    unfold sent2
    rw [stepVal_apply, h1, prod1_apply, hr]
  rw [h2, prod2_apply]
  exact around (fun d => share X W d (row c i a) (col r b)) r c

/-- `y` times its logistic. -/
def silu (y : EReal) : EReal := y * Ideal.logistic y

/-- An element of a device's result. -/
theorem outV_apply (c : Dev nD) (r : Bool) (i : Fin 4) (a : Fin 256) (b : Fin 1024) :
    (outV X W c r i (ix2 a b) : EReal) = silu (∑ d : Dev nD, share X W d (row c i a) (col r b)) := by
  unfold outV
  rw [lastVal_apply]
  show silu ((sent2 X W r i (up r c) (ix2 a b) : EReal) + prodV X W c r 2 i (ix2 a b)) = _
  rw [total]

set_option backward.proofsInPublic true in
/-- Row `p` of device `c`'s block of the rows. -/
def rowOf (c : Fin 4) (p : Fin 1024) : Fin 4096 := ⟨c.val * 1024 + p.val, by omega⟩

/-- An element of a device's result, by its place in the device's block. -/
theorem outAt_apply (c : Dev nD) (p : Fin 1024) (C : Fin 2048) :
    (outAt X W c (ix2 p C) : EReal) = silu (∑ d : Dev nD, share X W d (rowOf c p) C) := by
  have hp : inPiece (ix2 p C) = ix2 (⟨p.val % 256, Nat.mod_lt _ (by decide)⟩ : Fin 256) (⟨C.val % 1024, Nat.mod_lt _ (by decide)⟩ : Fin 1024) := by
    funext x
    match x with
    | ⟨0, _⟩ => rfl
    | ⟨1, _⟩ => rfl
  have hrow : row c (pieceRow (ix2 p C)) (⟨p.val % 256, Nat.mod_lt _ (by decide)⟩ : Fin 256) = rowOf c p := by
    apply Fin.ext
    show c.val * 1024 + (p.val / 256) * 256 + p.val % 256 = c.val * 1024 + p.val
    omega
  have hcol : col (decide (C.val < 1024)) (⟨C.val % 1024, Nat.mod_lt _ (by decide)⟩ : Fin 1024) = C := by
    apply Fin.ext
    have := C.isLt
    by_cases h : C.val < 1024
    · simp [col, half, h, Nat.mod_eq_of_lt h]
    · simp only [col, half, h, decide_false]
      show 1 * 1024 + C.val % 1024 = C.val
      omega
  show (outV X W c (decide (C.val < 1024)) (pieceRow (ix2 p C)) (inPiece (ix2 p C)) : EReal) = _
  rw [hp, outV_apply, hrow, hcol]

end Cert.RingProof

namespace Cert.RefProof

open Cert.ReferenceIdeal Cert.ReferenceIdeal.Gen
open Idealize.ShloMosaic

/-- An element of the reference's product. -/
theorem refDot_apply (x : FVec Ideal S4096x4096 .f32) (w : FVec Ideal S4096x2048 .f32) (R : Fin 4096) (C : Fin 2048) :
    (refDot (F := Ideal) x w (ix2 R C) : EReal) = ∑ q : Fin 4096, x (ix2 R q) * w (ix2 q C) := by
  pointwise [refDot]

/-- The exponential is not negative. -/
theorem exp_nonneg (z : EReal) : 0 ≤ Ideal.exp z := by
  induction z with
  | bot => exact le_refl (0 : EReal)
  | top => exact (le_top : (0 : EReal) ≤ ⊤)
  | coe t => exact EReal.coe_nonneg.2 (Real.exp_pos t).le

/-- `y / (1 + exp (-y))` is `y` times its logistic, at the infinities too. -/
theorem div_eq_silu (y : EReal) : Ideal.div y (1 + Ideal.exp (-y)) = Cert.RingProof.silu y := by
  have hne : (1 + Ideal.exp (-y) : EReal) ≠ 0 := ne_of_gt (lt_of_lt_of_le zero_lt_one (le_add_of_nonneg_right (exp_nonneg (-y))))
  unfold Cert.RingProof.silu Ideal.logistic Ideal.div
  rw [if_neg hne, if_neg hne, one_mul]

/-- An element of the reference's result. -/
theorem refOut_apply (x : FVec Ideal S4096x4096 .f32) (w : FVec Ideal S4096x2048 .f32) (R : Fin 4096) (C : Fin 2048) :
    (refOut (F := Ideal) x w (ix2 R C) : EReal) = Cert.RingProof.silu (∑ q : Fin 4096, x (ix2 R q) * w (ix2 q C)) := by
  rw [← div_eq_silu, ← refDot_apply]
  unfold refOut
  pointwise

/-! ## Block by block -/

/-- The sum over the contracted axis is the sum of the devices' shares, where each holds its block of the arguments. -/
theorem sum_shares (x : FVec Ideal S4096x4096 .f32) (w : FVec Ideal S4096x2048 .f32) (R : Fin 4096) (C : Fin 2048) :
    (∑ d : Fin 4, Cert.RingProof.share (fun c => Layout.block ⟨2, ![4096, 1024]⟩ ⟨2, ![4096, 4096]⟩ 1 4 c x)
        (fun c => Layout.block ⟨2, ![1024, 2048]⟩ ⟨2, ![4096, 2048]⟩ 0 4 c w) d R C)
      = ∑ q : Fin 4096, (x (ix2 R q) : EReal) * w (ix2 q C) := by
  unfold Cert.RingProof.share
  refine Fin.sum_mul_add_congr (S := 4) (n := 1024) (fun d k hl => ?_)
  beta_reduce
  rw [Layout.block_apply, Layout.block_apply]
  congr 1
  · refine congrArg x (funext fun a => Fin.ext ?_)
    match a with
    | ⟨0, _⟩ => rfl
    | ⟨1, _⟩ => rfl
  · refine congrArg w (funext fun a => Fin.ext ?_)
    match a with
    | ⟨0, _⟩ => rfl
    | ⟨1, _⟩ => rfl

/-- Where each device holds its block of the arguments, its result is its block of the reference's. -/
theorem block_refOut (c : Fin 4) (x : FVec Ideal S4096x4096 .f32) (w : FVec Ideal S4096x2048 .f32) :
    Cert.RingProof.outAt (F := Ideal) (fun c => Layout.block ⟨2, ![4096, 1024]⟩ ⟨2, ![4096, 4096]⟩ 1 4 c x)
        (fun c => Layout.block ⟨2, ![1024, 2048]⟩ ⟨2, ![4096, 2048]⟩ 0 4 c w) c
      = Layout.block ⟨2, ![1024, 2048]⟩ ⟨2, ![4096, 2048]⟩ 0 4 c (refOut (F := Ideal) x w) := by
  funext j
  obtain ⟨p, C, rfl⟩ : ∃ (p : Fin 1024) (C : Fin 2048), j = ix2 p C := ⟨j 0, j 1, eq_ix2 j⟩
  rw [Layout.block_apply]
  refine (Cert.RingProof.outAt_apply _ _ c p C).trans ?_
  rw [sum_shares, ← refOut_apply]
  refine congrArg (refOut (F := Ideal) x w) (funext fun a => Fin.ext ?_)
  match a with
  | ⟨0, _⟩ => rfl
  | ⟨1, _⟩ => rfl

end Cert.RefProof

end
-- ==== Proof.Algebraic.lean ====
module

public import proofs.«01_k».proof.Proof.Frames
public import proofs.«01_k».proof.Proof.Value

@[expose] public section

noncomputable section

/-! # The kernel against the reference, over the reals -/

namespace Cert.RingProof

open Cert.KernelIdeal Cert.KernelIdeal.Gen
open Idealize.ShloMosaic Idealize.ShloMosaic.TcCoe

section
variable {F : FTy → Type} [FloatOps F] (m : (ℓ : Loc nD τ sig) → Buf (Elt F) ℓ) (ρ : Dev nD → PrngReg) (c : Dev nD)

/-- Each argument's one block is its whole buffer; -/
theorem xIn_eq : xIn m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem wIn_eq : wIn m ρ c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _

/-- and so is the result's. -/
theorem finalA_out : finalA m ρ c (2 : Fin 3) = outAt (xIn m ρ) (wIn m ρ) c :=
  (Memref.read_access_unit_zero (Elt F) main_v1 (off := fun a => (win0_2.index (0 : Fin 1)) a * main_v1.ty.shape.size a)
    (funext fun a => by fin_cases a <;> decide) (fun a => by fin_cases a <;> decide) _).symm.trans (finalA_o m ρ c)

end

end Cert.RingProof

namespace Cert.Proof

open Idealize.ShloMosaic Idealize.SL.Sem

/-- From memories where each device holds its block of the reference's arguments, both programs end, each device's result is its
    block of the reference's, and the arguments of both are unchanged. -/
theorem algebraic : Cert.algebraic_KernelIdeal_ReferenceIdeal := by
  intro m ρ m' ρ' _ hag
  let x := m' (((0 : Dev Cert.ReferenceIdeal.nD).tc : Thread Cert.ReferenceIdeal.nD Cert.ReferenceIdeal.τ).loc Cert.ReferenceIdeal.main_arg0)
  let w := m' (((0 : Dev Cert.ReferenceIdeal.nD).tc : Thread Cert.ReferenceIdeal.nD Cert.ReferenceIdeal.τ).loc Cert.ReferenceIdeal.main_arg1)
  have hx : Cert.RingProof.xIn (F := Ideal) m ρ = fun c => Layout.block ⟨2, ![4096, 1024]⟩ ⟨2, ![4096, 4096]⟩ 1 4 c x :=
    funext fun c => (Cert.RingProof.xIn_eq m ρ c).trans (hag c).1
  have hw : Cert.RingProof.wIn (F := Ideal) m ρ = fun c => Layout.block ⟨2, ![1024, 2048]⟩ ⟨2, ![4096, 2048]⟩ 0 4 c w :=
    funext fun c => (Cert.RingProof.wIn_eq m ρ c).trans (hag c).2
  refine ⟨Cert.RefProof.refOut (F := Ideal) x w, ?_, ?_⟩
  · refine (θ_run Cert.KernelIdeal.defs _ _).mono (fun _ h c => ⟨(h.1 c (2 : Fin 3)).trans ?_,
      (h.1 c (0 : Fin 3)).trans (Cert.RingProof.finalA_x m ρ c), (h.1 c (1 : Fin 3)).trans (Cert.RingProof.finalA_w m ρ c)⟩)
      (Cert.RingProof.run_main (F := Ideal) m ρ)
    rw [Cert.RingProof.finalA_out, hx, hw]
    exact Cert.RefProof.block_refOut c x w
  · exact (θ_run Cert.ReferenceIdeal.defs _ _).mono (fun _ h => h.1 0) (Cert.RefProof.run_main (F := Ideal) m' ρ')

end Cert.Proof

end
-- ==== Proof.Clipped.lean ====
module

public import proofs.«01_k».proof.Proof.Algebraic
public import proofs.«01_k».proof.Proof.Gen.ClippedIdeal.Run
public import proofs.«01_k».proof.Proof.Gen.On_in_clip

@[expose] public section

noncomputable section

/-! # The kernel against the clipped reference

The clipped reference takes the logistic of `y` held between two bounds. At an element of the product between the bounds the
clip changes nothing, so the result there is the plain reference's. -/

namespace Cert.ClipProof

open Cert.ClippedIdeal Cert.ClippedIdeal.Gen
open Idealize.ShloMosaic

/-- The result of the clipped reference from its arguments. -/
def clipOut (x : FVec Ideal S4096x4096 .f32) (w : FVec Ideal S4096x2048 .f32) : FVec Ideal S4096x2048 .f32 :=
  Host.divf (Cert.RefProof.refDot (F := Ideal) x w)
    (addf (broadcastInDim S4096x2048 ![] bcast_S_S4096x2048 (constant S_ .f32 0x3F800000#32))
      (Host.exp (Host.negf (minimumf (broadcastInDim S4096x2048 ![] bcast_S_S4096x2048 (constant S_ .f32 0x42700000#32))
        (maximumf (broadcastInDim S4096x2048 ![] bcast_S_S4096x2048 (constant S_ .f32 0xC2700000#32))
          (Cert.RefProof.refDot (F := Ideal) x w))))))

/-- The bounds of the clip. -/
def lo : EReal := FloatOps.ofBits (F := Ideal) .f32 0xC2700000#32
def hi : EReal := FloatOps.ofBits (F := Ideal) .f32 0x42700000#32

/-- Both bits of a conjunction that is one are one. -/
theorem and_one : ∀ a b : BitVec 1, a &&& b = 1#1 → a = 1#1 ∧ b = 1#1 := by decide

/-- Where the mask is set, the element of the product is between the bounds. -/
theorem in_bounds (x : FVec Ideal S4096x4096 .f32) (w : FVec Ideal S4096x2048 .f32) (i : S4096x2048.Idx)
    (h : Cert.On_in_clip.fn (F := Ideal) x w i = 1#1) :
    lo ≤ (Cert.RefProof.refDot (F := Ideal) x w i : EReal) ∧ (Cert.RefProof.refDot (F := Ideal) x w i : EReal) ≤ hi := by
  have h2 : (Ideal.cmp .oge (Cert.RefProof.refDot (F := Ideal) x w i) lo &&& Ideal.cmp .ole (Cert.RefProof.refDot (F := Ideal) x w i) hi) = 1#1 := h
  obtain ⟨ha, hb⟩ := and_one _ _ h2
  constructor
  · by_contra hc
    simp [Ideal.cmp, hc] at ha
  · by_contra hc
    simp [Ideal.cmp, hc] at hb

/-- Where the mask is set, the clipped reference's result is the plain reference's. -/
theorem clipOut_eq (x : FVec Ideal S4096x4096 .f32) (w : FVec Ideal S4096x2048 .f32) (i : S4096x2048.Idx)
    (h : Cert.On_in_clip.fn (F := Ideal) x w i = 1#1) : clipOut x w i = Cert.RefProof.refOut (F := Ideal) x w i := by
  obtain ⟨hl, hh⟩ := in_bounds x w i h
  have hy : min hi (max lo (Cert.RefProof.refDot (F := Ideal) x w i : EReal)) = Cert.RefProof.refDot (F := Ideal) x w i := by
    rw [max_eq_right hl, min_eq_right hh]
  let one : EReal := FloatOps.ofBits (F := Ideal) .f32 0x3F800000#32
  show Ideal.div (Cert.RefProof.refDot (F := Ideal) x w i : EReal)
      (one + Ideal.exp (-(min hi (max lo (Cert.RefProof.refDot (F := Ideal) x w i : EReal)))))
    = Ideal.div (Cert.RefProof.refDot (F := Ideal) x w i : EReal) (one + Ideal.exp (-(Cert.RefProof.refDot (F := Ideal) x w i : EReal)))
  rw [hy]

end Cert.ClipProof

namespace Cert.Proof

open Idealize.ShloMosaic Idealize.SL.Sem

/-- The clipped reference ends with its arguments unchanged and its counters at zero. -/
theorem frame_clipped : Cert.quiescent_ClippedIdeal := fun m ρ _ =>
  (θ_run Cert.ClippedIdeal.defs _ _).mono (fun r h => ⟨fun c => (h c).2, sem_eq_zero_of_no_sems (by decide) r.2⟩)
    (Cert.ClippedIdeal.Value.run (F := Ideal) m ρ)

/-- From memories where each device holds its block of the clipped reference's arguments, both programs end; at the elements of
    the mask each device's result is its block of the clipped reference's, and the arguments of both are unchanged. -/
theorem algebraic_clipped : Cert.algebraic_KernelIdeal_ClippedIdeal_on_in_clip := by
  intro m ρ m' ρ' _ hag
  let x := m' (((0 : Dev Cert.ClippedIdeal.nD).tc : Thread Cert.ClippedIdeal.nD Cert.ClippedIdeal.τ).loc Cert.ClippedIdeal.main_arg0)
  let w := m' (((0 : Dev Cert.ClippedIdeal.nD).tc : Thread Cert.ClippedIdeal.nD Cert.ClippedIdeal.τ).loc Cert.ClippedIdeal.main_arg1)
  have hx : Cert.RingProof.xIn (F := Ideal) m ρ = fun c => Layout.block ⟨2, ![4096, 1024]⟩ ⟨2, ![4096, 4096]⟩ 1 4 c x :=
    funext fun c => (Cert.RingProof.xIn_eq m ρ c).trans (hag c).1
  have hw : Cert.RingProof.wIn (F := Ideal) m ρ = fun c => Layout.block ⟨2, ![1024, 2048]⟩ ⟨2, ![4096, 2048]⟩ 0 4 c w :=
    funext fun c => (Cert.RingProof.wIn_eq m ρ c).trans (hag c).2
  refine ⟨Cert.RefProof.refOut (F := Ideal) x w, ?_, ?_⟩
  · refine (θ_run Cert.KernelIdeal.defs _ _).mono (fun _ h c => ⟨fun i _ => congrFun ((h.1 c (2 : Fin 3)).trans ?_) i,
      (h.1 c (0 : Fin 3)).trans (Cert.RingProof.finalA_x m ρ c), (h.1 c (1 : Fin 3)).trans (Cert.RingProof.finalA_w m ρ c)⟩)
      (Cert.RingProof.run_main (F := Ideal) m ρ)
    rw [Cert.RingProof.finalA_out, hx, hw]
    exact Cert.RefProof.block_refOut c x w
  · exact (θ_run Cert.ClippedIdeal.defs _ _).mono
      (fun _ h => ⟨fun i hi => (congrFun (h 0).1 i).trans (Cert.ClipProof.clipOut_eq x w i hi), (h 0).2⟩)
      (Cert.ClippedIdeal.Value.run (F := Ideal) m' ρ')

end Cert.Proof

end
-- ==== Proof.lean ====
/-
  The proof of `Cert.Claim` (proofs.«01_k».proof.Defs): it puts together the frames (Proof/Frames.lean) and the
  value claims (Proof/Algebraic.lean, Proof/Clipped.lean), after the witnesses of the programs' stated facts.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_in_clip
public import proofs.«01_k».proof.Proof.Frames
public import proofs.«01_k».proof.Proof.Algebraic
public import proofs.«01_k».proof.Proof.Clipped

@[expose] public section

noncomputable section

namespace Cert.Proof

/-- All that is claimed. -/
theorem claim : Cert.Claim := ⟨Cert.Kernel.Gen.facts, Cert.KernelIdeal.Gen.facts, Cert.ReferenceIdeal.Gen.facts,
  Cert.ClippedIdeal.Gen.facts, Cert.On_in_clip.Gen.facts,
  frame_kernel, frame_ideal, frame_ref, frame_clipped, trivial, algebraic, algebraic_clipped⟩

end Cert.Proof

end
